-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x128x4096 : Shape := ⟨3, ![32, 128, 4096]⟩
abbrev S1024x128 : Shape := ⟨2, ![1024, 128]⟩
abbrev S32x4096x128 : Shape := ⟨3, ![32, 4096, 128]⟩
abbrev S32x1x4096 : Shape := ⟨3, ![32, 1, 4096]⟩
abbrev S1x128x512 : Shape := ⟨3, ![1, 128, 512]⟩
abbrev S1x512x128 : Shape := ⟨3, ![1, 512, 128]⟩
abbrev S1x1x512 : Shape := ⟨3, ![1, 1, 512]⟩
abbrev S128x512 : Shape := ⟨2, ![128, 512]⟩
abbrev S1024x512 : Shape := ⟨2, ![1024, 512]⟩
abbrev S512 : Shape := ⟨1, ![512]⟩
abbrev S1x512 : Shape := ⟨2, ![1, 512]⟩
abbrev S1024 : Shape := ⟨1, ![1024]⟩
abbrev S1024x1 : Shape := ⟨2, ![1024, 1]⟩
abbrev S512x128 : Shape := ⟨2, ![512, 128]⟩

abbrev nBuf : Space → Nat
  | .hbm => 4
  | .vmem => 7
  | .smem => 0
  | _ => 0

abbrev bufTy : (tb : Table) → Fin (tcTables nBuf tb) → BufTy
  | .hbm, ⟨0, _⟩ => ⟨S32x128x4096, .f32⟩
  | .hbm, ⟨1, _⟩ => ⟨S1024x128, .f32⟩
  | .hbm, ⟨2, _⟩ => ⟨S32x4096x128, .f32⟩
  | .hbm, ⟨3, _⟩ => ⟨S32x1x4096, .i32⟩
  | .local _ .vmem, ⟨0, _⟩ => ⟨S1x128x512, .f32⟩
  | .local _ .vmem, ⟨1, _⟩ => ⟨S1x128x512, .f32⟩
  | .local _ .vmem, ⟨2, _⟩ => ⟨S1024x128, .f32⟩
  | .local _ .vmem, ⟨3, _⟩ => ⟨S1x512x128, .f32⟩
  | .local _ .vmem, ⟨4, _⟩ => ⟨S1x512x128, .f32⟩
  | .local _ .vmem, ⟨5, _⟩ => ⟨S1x1x512, .i32⟩
  | .local _ .vmem, ⟨6, _⟩ => ⟨S1x1x512, .i32⟩
  | _, _ => ⟨S32x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S32x128x4096 : Shape := ⟨3, ![32, 128, 4096]⟩
abbrev S1024x128 : Shape := ⟨2, ![1024, 128]⟩
abbrev S32x4096x128 : Shape := ⟨3, ![32, 4096, 128]⟩
abbrev S_ : Shape := ⟨0, ![]⟩
abbrev S32x4096 : Shape := ⟨2, ![32, 4096]⟩
abbrev S32x4096x1 : Shape := ⟨3, ![32, 4096, 1]⟩
abbrev S1024 : Shape := ⟨1, ![1024]⟩
abbrev S32x4096x1024 : Shape := ⟨3, ![32, 4096, 1024]⟩
abbrev S1x1x1024 : Shape := ⟨3, ![1, 1, 1024]⟩
abbrev S1 : Shape := ⟨1, ![1]⟩
abbrev S1x1x1 : Shape := ⟨3, ![1, 1, 1]⟩
abbrev S32x1x4096 : Shape := ⟨3, ![32, 1, 4096]⟩

abbrev nBuf : Space → Nat
  | .hbm => 48
  | .vmem => 0
  | .smem => 0
  | _ => 0

abbrev bufTy : (tb : Table) → Fin (tcTables nBuf tb) → BufTy
  | .hbm, ⟨0, _⟩ => ⟨S32x128x4096, .f32⟩
  | .hbm, ⟨1, _⟩ => ⟨S1024x128, .f32⟩
  | .hbm, ⟨2, _⟩ => ⟨S32x4096x128, .f32⟩
  | .hbm, ⟨3, _⟩ => ⟨S32x4096x128, .f32⟩
  | .hbm, ⟨4, _⟩ => ⟨S_, .f32⟩
  | .hbm, ⟨5, _⟩ => ⟨S32x4096, .f32⟩
  | .hbm, ⟨6, _⟩ => ⟨S32x4096x1, .f32⟩
  | .hbm, ⟨7, _⟩ => ⟨S1024x128, .f32⟩
  | .hbm, ⟨8, _⟩ => ⟨S_, .f32⟩
  | .hbm, ⟨9, _⟩ => ⟨S1024, .f32⟩
  | .hbm, ⟨10, _⟩ => ⟨S32x4096x1024, .f32⟩
  | .hbm, ⟨11, _⟩ => ⟨S_, .f32⟩
  | .hbm, ⟨12, _⟩ => ⟨S32x4096x1024, .f32⟩
  | .hbm, ⟨13, _⟩ => ⟨S32x4096x1024, .f32⟩
  | .hbm, ⟨14, _⟩ => ⟨S32x4096x1024, .f32⟩
  | .hbm, ⟨15, _⟩ => ⟨S32x4096x1024, .f32⟩
  | .hbm, ⟨16, _⟩ => ⟨S1x1x1024, .f32⟩
  | .hbm, ⟨17, _⟩ => ⟨S32x4096x1024, .f32⟩
  | .hbm, ⟨18, _⟩ => ⟨S32x4096x1024, .f32⟩
  | .hbm, ⟨19, _⟩ => ⟨S32x4096x1024, .i32⟩
  | .hbm, ⟨20, _⟩ => ⟨S_, .f32⟩
  | .hbm, ⟨21, _⟩ => ⟨S_, .i32⟩
  | .hbm, ⟨22, _⟩ => ⟨S32x4096, .f32⟩
  | .hbm, ⟨23, _⟩ => ⟨S32x4096, .i32⟩
  | .hbm, ⟨24, _⟩ => ⟨S_, .i32⟩
  | .hbm, ⟨25, _⟩ => ⟨S32x4096, .i32⟩
  | .hbm, ⟨26, _⟩ => ⟨S32x4096, .i1⟩
  | .hbm, ⟨27, _⟩ => ⟨S_, .i32⟩
  | .hbm, ⟨28, _⟩ => ⟨S32x4096, .i32⟩
  | .hbm, ⟨29, _⟩ => ⟨S32x4096, .i32⟩
  | .hbm, ⟨30, _⟩ => ⟨S32x4096, .i32⟩
  | .hbm, ⟨31, _⟩ => ⟨S32x4096x1, .i32⟩
  | .hbm, ⟨32, _⟩ => ⟨S1, .i32⟩
  | .hbm, ⟨33, _⟩ => ⟨S_, .i32⟩
  | .hbm, ⟨34, _⟩ => ⟨S32x4096x1, .i32⟩
  | .hbm, ⟨35, _⟩ => ⟨S32x4096x1, .i1⟩
  | .hbm, ⟨36, _⟩ => ⟨S1x1x1, .i32⟩
  | .hbm, ⟨37, _⟩ => ⟨S32x4096x1, .i32⟩
  | .hbm, ⟨38, _⟩ => ⟨S32x4096x1, .i1⟩
  | .hbm, ⟨39, _⟩ => ⟨S32x4096x1, .i1⟩
  | .hbm, ⟨40, _⟩ => ⟨S_, .i1⟩
  | .hbm, ⟨41, _⟩ => ⟨S32x4096, .i1⟩
  | .hbm, ⟨42, _⟩ => ⟨S32x4096x128, .f32⟩
  | .hbm, ⟨43, _⟩ => ⟨S32x4096x128, .i1⟩
  | .hbm, ⟨44, _⟩ => ⟨S_, .f32⟩
  | .hbm, ⟨45, _⟩ => ⟨S32x4096x128, .f32⟩
  | .hbm, ⟨46, _⟩ => ⟨S32x4096x128, .f32⟩
  | .hbm, ⟨47, _⟩ => ⟨S32x1x4096, .i32⟩
  | _, _ => ⟨S32x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v15 : Ref sig .tc := ⟨.hbm, 46, rfl⟩
abbrev main_v16 : Ref sig .tc := ⟨.hbm, 47, rfl⟩

abbrev nD : Nat := 1
abbrev τ : Topo := Topo.v7x

variable {F : FTy → Type} [FloatOps F]
-- ==== Proof.ArgMin.lean ====
/- THE FIRST INDEX OF A LEAST VALUE among 1024 extended reals, and the three ways in which the two programs compute with it:
   the fold of the minimum, the fold of the signed minimum over the indices that attain it, and the left fold that keeps the
   lexicographically least pair of a value and an index. -/
module

public import Idealize.ShloMosaic.PureOps
public import Idealize.ShloMosaic.PureOps.Ideal
public import Idealize.ShloMosaic.PureOps.Ideal.Laws
public import Idealize.ShloMosaic.Lib.ValueIdxCore

@[expose] public section

noncomputable section

open scoped BigOperators

namespace Cert.Proof

open Idealize.ShloMosaic

/-- Some index attains the least of the values. -/
theorem minimizers_nonempty (v : Fin 1024 → EReal) : (Finset.univ.filter fun k => ∀ j, v k ≤ v j).Nonempty := by
  obtain ⟨k, _, hk⟩ := Finset.exists_min_image Finset.univ v Finset.univ_nonempty
  exact ⟨k, Finset.mem_filter.mpr ⟨Finset.mem_univ _, fun j => hk j (Finset.mem_univ _)⟩⟩

/-- The smallest index at which the values are least. -/
def firstMin (v : Fin 1024 → EReal) : Fin 1024 :=
  (Finset.univ.filter fun k => ∀ j, v k ≤ v j).min' (minimizers_nonempty v)

/-- The value at `firstMin` is at most every value. -/
theorem firstMin_le (v : Fin 1024 → EReal) (j : Fin 1024) : v (firstMin v) ≤ v j :=
  (Finset.mem_filter.mp (Finset.min'_mem _ (minimizers_nonempty v))).2 j

/-- No smaller index attains the least value. -/
theorem firstMin_first (v : Fin 1024 → EReal) (k : Fin 1024) (h : v k ≤ v (firstMin v)) : firstMin v ≤ k :=
  Finset.min'_le _ _ (Finset.mem_filter.mpr ⟨Finset.mem_univ _, fun j => h.trans (firstMin_le v j)⟩)

/-- The fold of `min` from the top value is the value at `firstMin`. -/
theorem fold_min_top (v : Fin 1024 → EReal) :
    (Finset.univ : Finset (Fin 1024)).fold min ⊤ v = v (firstMin v) := by
  refine le_antisymm ?_ ?_
  · exact Finset.fold_min_le _ |>.mpr (Or.inr ⟨firstMin v, Finset.mem_univ _, le_rfl⟩)
  · exact Finset.le_fold_min _ |>.mpr ⟨le_top, fun j _ => firstMin_le v j⟩

/-- An index below 1024, as a 32-bit word read signed, is itself. -/
theorem toInt_index (k : Fin 1024) : (BitVec.ofNat 32 k.val).toInt = (k.val : Int) := by
  have hk := k.isLt
  rw [BitVec.toInt_eq_toNat_of_lt (by rw [BitVec.toNat_ofNat]; omega), BitVec.toNat_ofNat]
  omega

/-- Two indices with the same word are the same index. -/
theorem index_word_inj {k j : Fin 1024} : BitVec.ofNat 32 k.val = BitVec.ofNat 32 j.val ↔ k = j := by
  constructor
  · intro h
    have := congrArg BitVec.toInt h
    rw [toInt_index, toInt_index] at this
    exact Fin.ext (by omega)
  · rintro rfl; rfl

/-- The signed minimum of two words, read signed, is the minimum of the two read signed. -/
theorem minsi_toInt {w : Nat} (x y : BitVec w) : (IntOp.minsi x y).toInt = min x.toInt y.toInt := by
  unfold IntOp.minsi
  by_cases h : x.slt y = true
  · rw [if_pos h]
    have := BitVec.slt_iff_toInt_lt.mp h
    omega
  · rw [if_neg h]
    have : ¬ x.toInt < y.toInt := fun h' => h (BitVec.slt_iff_toInt_lt.mpr h')
    omega

/-- A fold of the signed minimum over a set is at most its start and at most every word met, and is one of them. -/
theorem fold_minsi_spec {ι : Type} [DecidableEq ι] (g : ι → BitVec 32) (z : BitVec 32) (s : Finset ι) :
    (s.fold IntOp.minsi z g).toInt ≤ z.toInt ∧ (∀ i ∈ s, (s.fold IntOp.minsi z g).toInt ≤ (g i).toInt) ∧
      (s.fold IntOp.minsi z g = z ∨ ∃ i ∈ s, s.fold IntOp.minsi z g = g i) := by
  induction s using Finset.induction_on with
  | empty => exact ⟨le_rfl, fun i hi => absurd hi (Finset.notMem_empty i), Or.inl rfl⟩
  | insert a s ha ih =>
    obtain ⟨h1, h2, h3⟩ := ih
    rw [Finset.fold_insert ha]
    have hm := minsi_toInt (g a) (s.fold IntOp.minsi z g)
    refine ⟨by omega, fun i hi => ?_, ?_⟩
    · rcases Finset.mem_insert.mp hi with rfl | hi
      · omega
      · have := h2 i hi; omega
    · rcases min_choice (g a).toInt (s.fold IntOp.minsi z g).toInt with h | h
      · exact Or.inr ⟨a, Finset.mem_insert_self _ _, BitVec.eq_of_toInt_eq (hm.trans h)⟩
      · have he := BitVec.eq_of_toInt_eq (hm.trans h)
        rcases h3 with h3 | ⟨i, hi, h3⟩
        · exact Or.inl (he.trans h3)
        · exact Or.inr ⟨i, Finset.mem_insert_of_mem hi, he.trans h3⟩

/-- Folding the signed minimum over the indices that attain the least value, with 1024 in the place of the others, gives
    the word of `firstMin`. -/
theorem fold_minsi_firstMin (v : Fin 1024 → EReal) (g : Fin 1024 → BitVec 32)
    (hg : ∀ k, g k = if v k = v (firstMin v) then BitVec.ofNat 32 k.val else 1024#32) :
    (Finset.univ : Finset (Fin 1024)).fold IntOp.minsi 2147483647#32 g = BitVec.ofNat 32 (firstMin v).val := by
  obtain ⟨-, h2, h3⟩ := fold_minsi_spec g 2147483647#32 Finset.univ
  have hm := h2 (firstMin v) (Finset.mem_univ _)
  have hlt := (firstMin v).isLt
  rw [hg, if_pos rfl, toInt_index] at hm
  rcases h3 with h3 | ⟨i, -, h3⟩
  · rw [h3] at hm
    have : (2147483647#32).toInt = 2147483647 := by decide
    omega
  · rw [hg] at h3
    by_cases hi : v i = v (firstMin v)
    · rw [if_pos hi] at h3
      rw [h3, toInt_index] at hm
      have hle := Fin.le_def.mp (firstMin_first v i hi.le)
      rw [h3, index_word_inj]
      exact Fin.ext (by omega)
    · rw [if_neg hi] at h3
      rw [h3] at hm
      have : (1024#32).toInt = 1024 := by decide
      omega

/-- One pair of a value and an index is at most another in the lexicographic order. -/
def PairLE (a b : EReal × BitVec 32) : Prop := a.1 < b.1 ∨ (a.1 = b.1 ∧ a.2.toInt ≤ b.2.toInt)

/-- The lexicographic order of pairs is transitive. -/
theorem PairLE.trans {a b c : EReal × BitVec 32} (h : PairLE a b) (h' : PairLE b c) : PairLE a c := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- A left fold that keeps the lexicographically least pair ends at one of the pairs met, at most every pair met. -/
theorem foldl_least (f : EReal × BitVec 32 → EReal × BitVec 32 → EReal × BitVec 32)
    (hl : ∀ a b, PairLE (f a b) a) (hr : ∀ a b, PairLE (f a b) b) (hc : ∀ a b, f a b = a ∨ f a b = b)
    (l : List (EReal × BitVec 32)) (z : EReal × BitVec 32) :
    l.foldl f z ∈ z :: l ∧ ∀ p ∈ z :: l, PairLE (l.foldl f z) p := by
  induction l generalizing z with
  | nil =>
    refine ⟨List.mem_cons_self, fun p hp => ?_⟩
    rcases List.mem_cons.mp hp with rfl | hp
    · exact Or.inr ⟨rfl, le_rfl⟩
    · exact absurd hp List.not_mem_nil
  | cons a l ih =>
    obtain ⟨h1, h2⟩ := ih (f z a)
    rw [List.foldl_cons]
    refine ⟨?_, fun p hp => ?_⟩
    · rcases List.mem_cons.mp h1 with h | h
      · rcases hc z a with e | e <;> rw [h, e] <;> simp
      · exact List.mem_cons_of_mem _ (List.mem_cons_of_mem _ h)
    · have h0 := h2 (f z a) List.mem_cons_self
      rcases List.mem_cons.mp hp with rfl | hp
      · exact h0.trans (hl _ _)
      · rcases List.mem_cons.mp hp with rfl | hp
        · exact h0.trans (hr _ _)
        · exact h2 p (List.mem_cons_of_mem _ hp)

/-- Such a fold from the pair of the top value and index zero, over a list that holds exactly the pairs of a value and its
    index, ends at the index `firstMin`. -/
theorem foldl_least_firstMin (f : EReal × BitVec 32 → EReal × BitVec 32 → EReal × BitVec 32)
    (hl : ∀ a b, PairLE (f a b) a) (hr : ∀ a b, PairLE (f a b) b) (hc : ∀ a b, f a b = a ∨ f a b = b)
    (v : Fin 1024 → EReal) (l : List (EReal × BitVec 32))
    (hl₁ : ∀ p ∈ l, ∃ k : Fin 1024, p = (v k, BitVec.ofNat 32 k.val))
    (hl₂ : ∀ k : Fin 1024, (v k, BitVec.ofNat 32 k.val) ∈ l) :
    (l.foldl f (⊤, 0#32)).2 = BitVec.ofNat 32 (firstMin v).val := by
  obtain ⟨h1, h2⟩ := foldl_least f hl hr hc l (⊤, 0#32)
  have hm := h2 _ (List.mem_cons_of_mem _ (hl₂ (firstMin v)))
  rcases List.mem_cons.mp h1 with h | h
  · rw [h] at hm ⊢
    rcases hm with hm | ⟨hm, -⟩
    · have hm' : (⊤ : EReal) < v (firstMin v) := hm
      exact absurd hm' not_top_lt
    · have hm' : (⊤ : EReal) = v (firstMin v) := hm
      have h0 : firstMin v ≤ 0 := firstMin_first v 0 (by rw [← hm']; exact le_top)
      have h0' : firstMin v = 0 := le_antisymm h0 (Fin.zero_le _)
      rw [h0']; rfl
  · obtain ⟨k, hk⟩ := hl₁ _ h
    rw [hk] at hm ⊢
    rcases hm with hm | ⟨hm, hi⟩
    · have hm' : v k < v (firstMin v) := hm
      exact absurd hm' (not_lt.mpr (firstMin_le v k))
    · have hm' : v k = v (firstMin v) := hm
      have hi' : (BitVec.ofNat 32 k.val).toInt ≤ (BitVec.ofNat 32 (firstMin v).val).toInt := hi
      rw [toInt_index, toInt_index] at hi'
      have hle := Fin.le_def.mp (firstMin_first v k hm'.le)
      show BitVec.ofNat 32 k.val = _
      rw [index_word_inj]
      exact Fin.ext (by omega)

/-- A sum of values weighted one at one index and zero elsewhere is the value at that index, whatever the values. -/
theorem sum_oneHot (c : Fin 1024) (w v : Fin 1024 → EReal) (hw : ∀ k, w k = if k = c then 1 else 0) :
    ∑ k, w k * v k = v c := by
  rw [Finset.sum_eq_single c]
  · rw [hw, if_pos rfl, one_mul]
  · intro k _ hk; rw [hw, if_neg hk, zero_mul]
  · exact fun h => absurd (Finset.mem_univ c) h

/-- The squared distance of a vector to row `k` of a table, in the order in which both programs form it: the vector's
    square sum, less twice the product with the row, plus the row's square sum. -/
def dist2 (x : Fin 128 → EReal) (e : Fin 1024 → Fin 128 → EReal) (k : Fin 1024) : EReal :=
  ((∑ d, x d * x d) - Ideal.ofBits .f32 0x40000000#32 * ∑ d, e k d * x d) + ∑ d, e k d * e k d

/-- The row of the table nearest to a vector, the first of them where several are. -/
def nearest (x : Fin 128 → EReal) (e : Fin 1024 → Fin 128 → EReal) : Fin 1024 := firstMin (dist2 x e)

end Cert.Proof

end
-- ==== Proof.Block.lean ====
/- ONE BLOCK OF THE KERNEL, INDEX BY INDEX: what its body computes from a block of 512 vectors and the whole table. The
   squared distances are those of `dist2`, the index it keeps is that of the nearest row of the table (the first of equally
   near ones), and its one-hot product is that row. -/
module

public import proofs.«01_k».proof.Proof.Gen.KernelIdeal.Skeleton
public import proofs.«01_k».proof.Proof.ArgMin
public import Idealize.ShloMosaic.Lib.Pipeline.Value
public import Idealize.ShloMosaic.Lib.ValueIdx
public import Idealize.ShloMosaic.PureOps.Ideal.Laws

@[expose] public section

noncomputable section

namespace Cert.Proof.Block

open Cert.KernelIdeal Cert.KernelIdeal.Gen Idealize.ShloMosaic Idealize.ShloMosaic.ValueIdx Idealize.SL.Sem

variable (v0 : Vec Ideal S1x128x512 .f32) (v2 : Vec Ideal S1024x128 .f32)

/-- Vector `j` of the block. -/
abbrev vecAt (j : Fin 512) (d : Fin 128) : EReal := v0 (ix3 0 d j)

/-- Row `k` of the table. -/
abbrev rowAt (k : Fin 1024) (d : Fin 128) : EReal := v2 (ix2 k d)

/-- The block's vectors, the leading axis of one dropped. -/
abbrev vecs : FVec Ideal S128x512 .f32 := shapeCast S128x512 v0 shapeCasts_S1x128x512_S128x512

/-- The sums of squares of the vectors. -/
abbrev vecSq : FVec Ideal S512 .f32 :=
  multiReduction .add [0] S512 (mulf (vecs v0) (vecs v0)) 0x00000000#32 reduces_S128x512_S512 (.inl rfl) rfl

/-- The sums of squares of the table's rows. -/
abbrev rowSq : FVec Ideal S1024 .f32 :=
  multiReduction .add [1] S1024 (mulf (show FVec Ideal S1024x128 .f32 from v2) v2) 0x00000000#32 reduces_S1024x128_S1024 (.inl rfl) rfl

/-- The products of the table's rows with the vectors. -/
abbrev prods : FVec Ideal S1024x512 .f32 :=
  matmul dot_S1024x128_S128x512_S1024x512_1_0_0_1_n_n none (show FVec Ideal S1024x128 .f32 from v2) (vecs v0) (constant S1024x512 .f32 0x00000000#32)

/-- The squared distances as the body composes them. -/
def dists : FVec Ideal S1024x512 .f32 :=
  addf
    (subf (broadcastTo S1024x512 (shapeCast S1x512 (vecSq v0) shapeCasts_S512_S1x512) broadcasts_S1x512_S1024x512)
      (mulf (broadcast S1024x512 (Scalar.ofBits .f32 0x40000000#32)) (prods v0 v2)))
    (broadcastTo S1024x512 (shapeCast S1024x1 (rowSq v2) shapeCasts_S1024_S1024x1) broadcasts_S1024x1_S1024x512)

/-- The least squared distance of each vector. -/
abbrev least : FVec Ideal S512 .f32 :=
  multiReduction .minimumf [0] S512 (dists v0 v2) 0x7F800000#32 reduces_S1024x512_S512 (.inl rfl) rfl

/-- The row numbers where the distance is the least, 1024 elsewhere. -/
abbrev hits : IVec S1024x512 32 :=
  select (cmpf .oeq (dists v0 v2) (broadcastTo S1024x512 (shapeCast S1x512 (least v0 v2) shapeCasts_S512_S1x512) broadcasts_S1x512_S1024x512))
    (iota .tc S1024x512 32 [0] iota_S1024x512_d0_w32) (broadcast S1024x512 1024#32)

/-- The kept indices are the least of those row numbers. -/
theorem pay1_eq : k0_pay1 v0 v2 = shapeCast S1x512 (multiReductionI .minsi [0] S512 (hits v0 v2) 2147483647#32 reduces_S1024x512_S512 rfl) shapeCasts_S512_S1x512 := rfl

/-- The block's vectors at an index. -/
theorem vecs_apply (d : Fin 128) (j : Fin 512) : vecs v0 (ix2 d j) = vecAt v0 j d :=
  shapeCast_apply _ _ _ (ix3 0 d j) (by
    rw [Shape.rowMajor_val_three, Shape.rowMajor_val_two]
    show (0 * 128 + d.val) * 512 + j.val = d.val * 512 + j.val
    omega)

/-- A vector's sum of squares. -/
theorem vecSq_apply (j : Fin 512) : vecSq v0 (ix1 j) = ∑ d, vecAt v0 j d * vecAt v0 j d := by
  refine (Ideal.multiReduction_add_single _ _ reduces_S128x512_S512 _ _ (ix1 j)).trans (Finset.sum_congr rfl fun d _ => ?_)
  have hl : reduces_S128x512_S512.lift (ix1 j) d = ix2 d j := by
    funext a; refine Fin.ext ?_
    match a with
    | ⟨0, _⟩ => rfl
    | ⟨1, _⟩ => rfl
  rw [hl]
  exact congrArg₂ (· * ·) (vecs_apply v0 d j) (vecs_apply v0 d j)

/-- A row's sum of squares. -/
theorem rowSq_apply (k : Fin 1024) : rowSq v2 (ix1 k) = ∑ d, rowAt v2 k d * rowAt v2 k d := by
  refine (Ideal.multiReduction_add_single _ _ reduces_S1024x128_S1024 _ _ (ix1 k)).trans (Finset.sum_congr rfl fun d _ => ?_)
  have hl : reduces_S1024x128_S1024.lift (ix1 k) d = ix2 k d := by
    funext a; refine Fin.ext ?_
    match a with
    | ⟨0, _⟩ => rfl
    | ⟨1, _⟩ => rfl
  rw [hl]
  rfl

/-- The product of a row with a vector. -/
theorem prods_apply (k : Fin 1024) (j : Fin 512) : prods v0 v2 (ix2 k j) = ∑ d, rowAt v2 k d * vecAt v0 j d := by
  show matmul _ _ _ _ _ _ = _
  simp only [matmul]
  rw [Ideal.matmul_constant_zero_apply]
  rw [← Equiv.sum_comp (contrEquiv1 dot_S1024x128_S128x512_S1024x512_1_0_0_1_n_n 128 rfl rfl).symm]
  refine Finset.sum_congr rfl fun d _ => ?_
  have hv := contrEquiv1_symm_val dot_S1024x128_S128x512_S1024x512_1_0_0_1_n_n 128 rfl rfl d
  have h1 : dot_S1024x128_S128x512_S1024x512_1_0_0_1_n_n.lhsIdx (ix2 k j)
      ((contrEquiv1 dot_S1024x128_S128x512_S1024x512_1_0_0_1_n_n 128 rfl rfl).symm d) = ix2 k d := by
    funext a; refine Fin.ext ?_
    match a with
    | ⟨0, _⟩ => rfl
    | ⟨1, _⟩ => exact hv
  have h2 : dot_S1024x128_S128x512_S1024x512_1_0_0_1_n_n.rhsIdx (ix2 k j)
      ((contrEquiv1 dot_S1024x128_S128x512_S1024x512_1_0_0_1_n_n 128 rfl rfl).symm d) = ix2 d j := by
    funext a; refine Fin.ext ?_
    match a with
    | ⟨0, _⟩ => exact hv
    | ⟨1, _⟩ => rfl
  rw [h1, h2, vecs_apply]

/-- The squared distance of a row and a vector. -/
theorem dists_apply (k : Fin 1024) (j : Fin 512) : dists v0 v2 (ix2 k j) = dist2 (vecAt v0 j) (rowAt v2) k := by
  have hx : broadcastTo S1024x512 (shapeCast S1x512 (vecSq v0) shapeCasts_S512_S1x512) broadcasts_S1x512_S1024x512 (ix2 k j)
      = vecSq v0 (ix1 j) :=
    (broadcastTo_apply _ _ _ (ix2 0 j) (by
      intro a
      match a with
      | ⟨0, _⟩ => rfl
      | ⟨1, _⟩ => rfl)).trans
    (shapeCast_apply _ _ _ (ix1 j) (by
      rw [Shape.rowMajor_val_one, Shape.rowMajor_val_two]
      show j.val = 0 * 512 + j.val
      omega))
  have he : broadcastTo S1024x512 (shapeCast S1024x1 (rowSq v2) shapeCasts_S1024_S1024x1) broadcasts_S1024x1_S1024x512 (ix2 k j)
      = rowSq v2 (ix1 k) :=
    (broadcastTo_apply _ _ _ (ix2 k 0) (by
      intro a
      match a with
      | ⟨0, _⟩ => rfl
      | ⟨1, _⟩ => rfl)).trans
    (shapeCast_apply _ _ _ (ix1 k) (by
      rw [Shape.rowMajor_val_one, Shape.rowMajor_val_two]
      show k.val = k.val * 1 + 0
      omega))
  show (broadcastTo S1024x512 (shapeCast S1x512 (vecSq v0) shapeCasts_S512_S1x512) broadcasts_S1x512_S1024x512 (ix2 k j)
      - Ideal.ofBits .f32 0x40000000#32 * prods v0 v2 (ix2 k j))
    + broadcastTo S1024x512 (shapeCast S1024x1 (rowSq v2) shapeCasts_S1024_S1024x1) broadcasts_S1024x1_S1024x512 (ix2 k j) = _
  rw [hx, he, vecSq_apply, rowSq_apply, prods_apply]
  rfl

/-- Where a row lies over a vector in the axis that the reductions run along. -/
theorem lift_eq (k : Fin 1024) (j : Fin 512) : reduces_S1024x512_S512.lift (ix1 j) k = ix2 k j := by
  funext a; refine Fin.ext ?_
  match a with
  | ⟨0, _⟩ => rfl
  | ⟨1, _⟩ => rfl

/-- The least distance is the distance of the nearest row. -/
theorem least_apply (j : Fin 512) : least v0 v2 (ix1 j)
    = dist2 (vecAt v0 j) (rowAt v2) (nearest (vecAt v0 j) (rowAt v2)) := by
  refine (multiReduction_minimumf_eq_fold (dists v0 v2) _ reduces_S1024x512_S512 _ _ (ix1 j)).trans ?_
  refine (reduces_S1024x512_S512.fold_filter_drop_single _ _ _ (ix1 j)).trans ?_
  have ht : (FloatOps.ofBits .f32 0x7F800000#32 : Ideal .f32) = (⊤ : EReal) := by
    show Ideal.ofBits .f32 0x7F800000#32 = _
    simp [Ideal.ofBits, Ideal.ieee]
  have hf : (dists v0 v2 ∘ reduces_S1024x512_S512.lift (ix1 j) : Fin 1024 → EReal) = dist2 (vecAt v0 j) (rowAt v2) :=
    funext fun k => by
      show dists v0 v2 (reduces_S1024x512_S512.lift (ix1 j) k) = _
      rw [lift_eq, dists_apply]
  rw [ht]
  exact (congrArg (fun f : Fin 1024 → EReal => (Finset.univ : Finset (Fin 1024)).fold min ⊤ f) hf).trans (fold_min_top _)

/-- A row number where the row is as near as the nearest, 1024 elsewhere. -/
theorem hits_apply (k : Fin 1024) (j : Fin 512) : hits v0 v2 (ix2 k j)
    = if dist2 (vecAt v0 j) (rowAt v2) k = dist2 (vecAt v0 j) (rowAt v2) (nearest (vecAt v0 j) (rowAt v2))
      then BitVec.ofNat 32 k.val else 1024#32 := by
  have hb : broadcastTo S1024x512 (shapeCast S1x512 (least v0 v2) shapeCasts_S512_S1x512) broadcasts_S1x512_S1024x512 (ix2 k j)
      = least v0 v2 (ix1 j) :=
    (broadcastTo_apply _ _ _ (ix2 0 j) (by
      intro a
      match a with
      | ⟨0, _⟩ => rfl
      | ⟨1, _⟩ => rfl)).trans
    (shapeCast_apply _ _ _ (ix1 j) (by
      rw [Shape.rowMajor_val_one, Shape.rowMajor_val_two]
      show j.val = 0 * 512 + j.val
      omega))
  have hi : iota .tc S1024x512 32 [0] iota_S1024x512_d0_w32 (ix2 k j) = BitVec.ofNat 32 k.val := iota_single_apply _ _ _ _ _ _
  show Scalar.select (Ideal.cmp .oeq (dists v0 v2 (ix2 k j))
      (broadcastTo S1024x512 (shapeCast S1x512 (least v0 v2) shapeCasts_S512_S1x512) broadcasts_S1x512_S1024x512 (ix2 k j)))
    (iota .tc S1024x512 32 [0] iota_S1024x512_d0_w32 (ix2 k j)) 1024#32 = _
  rw [hb, hi, least_apply, dists_apply]
  by_cases h : dist2 (vecAt v0 j) (rowAt v2) k = dist2 (vecAt v0 j) (rowAt v2) (nearest (vecAt v0 j) (rowAt v2))
  · rw [if_pos h]; simp [Ideal.cmp, h, Scalar.select]
  · rw [if_neg h]; simp [Ideal.cmp, h, Scalar.select]

/-- THE KEPT INDEX is that of the nearest row. -/
theorem pay1_apply (j : Fin 512) : k0_pay1 v0 v2 (ix2 0 j) = BitVec.ofNat 32 (nearest (vecAt v0 j) (rowAt v2)).val := by
  rw [pay1_eq]
  refine (shapeCast_apply _ _ _ (ix1 j) (by
      rw [Shape.rowMajor_val_one, Shape.rowMajor_val_two]
      show j.val = 0 * 512 + j.val
      omega)).trans ?_
  refine (multiReductionI_eq_fold .minsi (hits v0 v2) _ reduces_S1024x512_S512 _ (ix1 j)).trans ?_
  refine (reduces_S1024x512_S512.fold_filter_drop_single _ _ _ (ix1 j)).trans ?_
  refine fold_minsi_firstMin (dist2 (vecAt v0 j) (rowAt v2)) _ fun k => ?_
  show hits v0 v2 (reduces_S1024x512_S512.lift (ix1 j) k) = _
  rw [lift_eq, hits_apply]
  rfl

/-- The one-hot array: one at the nearest row, zero elsewhere. -/
abbrev oneHot : FVec Ideal S1024x512 .f32 :=
  sitofp .f32 (extui 32 (cmpi .eq (iota .tc S1024x512 32 [0] iota_S1024x512_d0_w32)
    (broadcastTo S1024x512 (k0_pay1 v0 v2) broadcasts_S1x512_S1024x512)) natLt_1_32)

/-- The one-hot array at an index. -/
theorem oneHot_apply (k : Fin 1024) (j : Fin 512) : oneHot v0 v2 (ix2 k j)
    = if k = nearest (vecAt v0 j) (rowAt v2) then 1 else 0 := by
  have hb : broadcastTo S1024x512 (k0_pay1 v0 v2) broadcasts_S1x512_S1024x512 (ix2 k j) = k0_pay1 v0 v2 (ix2 0 j) :=
    broadcastTo_apply _ _ _ (ix2 0 j) (by
      intro a
      match a with
      | ⟨0, _⟩ => rfl
      | ⟨1, _⟩ => rfl)
  have hi : iota .tc S1024x512 32 [0] iota_S1024x512_d0_w32 (ix2 k j) = BitVec.ofNat 32 k.val := iota_single_apply _ _ _ _ _ _
  show ((((IntOp.cmpi .eq (iota .tc S1024x512 32 [0] iota_S1024x512_d0_w32 (ix2 k j))
    (broadcastTo S1024x512 (k0_pay1 v0 v2) broadcasts_S1x512_S1024x512 (ix2 k j))).setWidth 32).toInt : ℝ) : EReal) = _
  rw [hb, hi, pay1_apply]
  by_cases h : k = nearest (vecAt v0 j) (rowAt v2)
  · rw [if_pos h, ← h]; simp [IntOp.cmpi]
  · have h' : ¬ BitVec.ofNat 32 k.val = BitVec.ofNat 32 (nearest (vecAt v0 j) (rowAt v2)).val := fun e => h (index_word_inj.mp e)
    rw [if_neg h]; simp [IntOp.cmpi, beq_eq_false_iff_ne.mpr h']

/-- THE ONE-HOT PRODUCT is the nearest row. -/
theorem pay3_apply (j : Fin 512) (d : Fin 128) : k0_pay3 v0 v2 (ix3 0 j d) = rowAt v2 (nearest (vecAt v0 j) (rowAt v2)) d := by
  show shapeCast S1x512x128 (matmul dot_S1024x512_S1024x128_S512x128_0_0_1_1_n_n none (oneHot v0 v2)
    (show FVec Ideal S1024x128 .f32 from v2) (constant S512x128 .f32 0x00000000#32)) shapeCasts_S512x128_S1x512x128 (ix3 0 j d) = _
  refine (shapeCast_apply _ _ _ (ix2 j d) (by
    rw [Shape.rowMajor_val_three, Shape.rowMajor_val_two]
    show j.val * 128 + d.val = (0 * 512 + j.val) * 128 + d.val
    omega)).trans ?_
  simp only [matmul]
  rw [Ideal.matmul_constant_zero_apply]
  rw [← Equiv.sum_comp (contrEquiv1 dot_S1024x512_S1024x128_S512x128_0_0_1_1_n_n 1024 rfl rfl).symm]
  refine Eq.trans (Finset.sum_congr rfl fun k _ => ?_)
    (sum_oneHot (nearest (vecAt v0 j) (rowAt v2)) (fun k => oneHot v0 v2 (ix2 k j)) (fun k => rowAt v2 k d) fun k => oneHot_apply v0 v2 k j)
  have hv := contrEquiv1_symm_val dot_S1024x512_S1024x128_S512x128_0_0_1_1_n_n 1024 rfl rfl k
  have h1 : dot_S1024x512_S1024x128_S512x128_0_0_1_1_n_n.lhsIdx (ix2 j d)
      ((contrEquiv1 dot_S1024x512_S1024x128_S512x128_0_0_1_1_n_n 1024 rfl rfl).symm k) = ix2 k j := by
    funext a; refine Fin.ext ?_
    match a with
    | ⟨0, _⟩ => exact hv
    | ⟨1, _⟩ => rfl
  have h2 : dot_S1024x512_S1024x128_S512x128_0_0_1_1_n_n.rhsIdx (ix2 j d)
      ((contrEquiv1 dot_S1024x512_S1024x128_S512x128_0_0_1_1_n_n 1024 rfl rfl).symm k) = ix2 k d := by
    funext a; refine Fin.ext ?_
    match a with
    | ⟨0, _⟩ => exact hv
    | ⟨1, _⟩ => rfl
  rw [h1, h2]

end Cert.Proof.Block

end
-- ==== Proof.Spec.lean ====
/- WHAT BOTH PROGRAMS COMPUTE, as two functions of the vectors and the table: for every vector the number of the nearest row
   of the table (the first of equally near ones), and that row. -/
module

public import proofs.«01_k».proof.Proof.ArgMin
public import Idealize.ShloMosaic.Lib.ValueIdx

@[expose] public section

noncomputable section

namespace Cert.Proof

open Idealize.ShloMosaic Idealize.ShloMosaic.ValueIdx

/-- The number of the row that is nearest to vector `t` of batch element `b`. -/
def code (a : FVec Ideal ⟨3, ![32, 128, 4096]⟩ .f32) (e : FVec Ideal ⟨2, ![1024, 128]⟩ .f32) (b : Fin 32) (t : Fin 4096) : Fin 1024 :=
  nearest (fun d => a (ix3 b d t)) (fun k d => e (ix2 k d))

/-- The first result: at every vector the nearest row. -/
def quantV (a : FVec Ideal ⟨3, ![32, 128, 4096]⟩ .f32) (e : FVec Ideal ⟨2, ![1024, 128]⟩ .f32) :
    FVec Ideal ⟨3, ![32, 4096, 128]⟩ .f32 :=
  fun i => e (ix2 (code a e (i 0) (i 1)) (i 2))

/-- The second result: at every vector the nearest row's number. -/
def codesV (a : FVec Ideal ⟨3, ![32, 128, 4096]⟩ .f32) (e : FVec Ideal ⟨2, ![1024, 128]⟩ .f32) :
    IVec ⟨3, ![32, 1, 4096]⟩ 32 :=
  fun i => BitVec.ofNat 32 (code a e (i 0) (i 2)).val

end Cert.Proof

end
-- ==== Proof.KernelValue.lean ====
/- THE KERNEL'S TWO RESULT ARRAYS after its run, in closed form: each grid point writes one block of 512 vectors' results,
   the blocks tile the arrays, and every element is that of `quantV` and `codesV`. -/
module

public import proofs.«01_k».proof.Proof.Gen.KernelIdeal.Frame
public import proofs.«01_k».proof.Proof.Block
public import proofs.«01_k».proof.Proof.Spec
public import Idealize.ShloMosaic.Lib.Pipeline.ValueKit

@[expose] public section

noncomputable section

namespace Cert.Proof.KernelValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Where every window's block lies at a grid point. -/
theorem idx : ∀ t : Fin cfg0.N, win0_0.index t = ![(grid0.coords t 0).val, 0, (grid0.coords t 1).val] ∧ win0_1.index t = ![0, 0]
    ∧ win0_2.index t = ![(grid0.coords t 0).val, (grid0.coords t 1).val, 0]
    ∧ win0_3.index t = ![(grid0.coords t 0).val, 0, (grid0.coords t 1).val] :=
  (by decide +kernel : ∀ t : Fin grid0.N, _)

/-- The vectors' position in their array: `j` of a grid point's block. -/
abbrev pos (t : Fin cfg0.N) (j : Fin 512) : Fin 4096 :=
  ⟨(grid0.coords t 1).val * 512 + j.val, by have h : (grid0.coords t 1).val < 8 := (grid0.coords t 1).isLt; have := j.isLt; omega⟩

/-- The table's block is the whole table at every grid point. -/
theorem iblk1 (c : Dev nD) (t : Fin cfg0.N) : iblk m c 1 t = m ((c : Thread nD τ).loc main_arg1) := by
  obtain ⟨-, h1, -, -⟩ := idx t
  blk_ext! [iblk, V, h1]

/-- The vectors' block at a grid point: 512 vectors of one batch element. -/
theorem iblk0 (c : Dev nD) (t : Fin cfg0.N) (d : Fin 128) (j : Fin 512) : iblk m c 0 t (ValueIdx.ix3 0 d j)
    = m ((c : Thread nD τ).loc main_arg0) (ValueIdx.ix3 (n0 := 32) (grid0.coords t 0) d (pos t j)) := by
  obtain ⟨h0, -, -, -⟩ := idx t
  blk_simp [iblk, V, h0]
  refine congrArg _ (funext fun a => Fin.ext ?_)
  match a with
  | ⟨0, _⟩ => blk_simp [h0]
  | ⟨1, _⟩ => blk_simp [h0]
  | ⟨2, _⟩ => blk_simp [h0]

/-- A rectangle that starts at zero on three axes, as the body's accesses name it. -/
theorem off3 : (![0, 0, 0] : Fin 3 → Nat) = fun _ => 0 := by decide

/-- A rectangle that starts at zero on two axes, as the body's accesses name it. -/
theorem off2 : (![0, 0] : Fin 2 → Nat) = fun _ => 0 := by decide

/-- The body leaves in the first result's block what it computes from the two blocks. -/
theorem out2_eq (x0 : Vec Ideal S1x128x512 .f32) (x1 : Vec Ideal S1024x128 .f32) : out0_2 x0 x1 = k0_pay3 x0 x1 := by
  unfold out0_2
  rw [View.canon_unit_zero off3, View.ld_unit_zero off3, View.ld_unit_zero off2]

/-- The body leaves in the second result's block what it computes from the two blocks. -/
theorem out3_eq (x0 : Vec Ideal S1x128x512 .f32) (x1 : Vec Ideal S1024x128 .f32) : out0_3 x0 x1 = k0_pay2 x0 x1 := by
  unfold out0_3
  rw [View.canon_unit_zero off3, View.ld_unit_zero off3, View.ld_unit_zero off2]

/-- A row of numbers with two more leading axes of one is read at the row's own place. -/
theorem pay2_apply (x0 : Vec Ideal S1x128x512 .f32) (x1 : Vec Ideal S1024x128 .f32) (j : Fin 512) :
    k0_pay2 x0 x1 (ValueIdx.ix3 0 0 j) = k0_pay1 x0 x1 (ValueIdx.ix2 0 j) := by
  show shapeCast S1x1x512 (shapeCast S512 (k0_pay1 x0 x1) shapeCasts_S1x512_S512) shapeCasts_S512_S1x1x512 (ValueIdx.ix3 0 0 j) = _
  refine (shapeCast_apply _ _ _ (ValueIdx.ix1 j) (by
    rw [Shape.rowMajor_val_one, Shape.rowMajor_val_three]
    show j.val = (0 * 1 + 0) * 512 + j.val
    omega)).trans ?_
  exact shapeCast_apply _ _ _ (ValueIdx.ix2 0 j) (by
    rw [Shape.rowMajor_val_one, Shape.rowMajor_val_two]
    show 0 * 512 + j.val = j.val
    omega)

/-- The nearest row to a vector of a grid point's block is the nearest row to that vector of the whole array. -/
theorem code_block (c : Dev nD) (t : Fin cfg0.N) (j : Fin 512) :
    nearest (Block.vecAt (iblk m c 0 t) j) (Block.rowAt (m ((c : Thread nD τ).loc main_arg1)))
      = code (m ((c : Thread nD τ).loc main_arg0)) (m ((c : Thread nD τ).loc main_arg1)) (grid0.coords t 0) (pos t j) := by
  unfold code
  exact congrArg (fun x => nearest x _) (funext fun d => iblk0 m c t d j)

/-- Where a grid point's block of the first result lies in its array. -/
theorem emb2 (t : Fin cfg0.N) (j : Fin 512) (d : Fin 128) :
    ((win0_2.blk t).view.emb (ValueIdx.ix3 0 j d) : S32x4096x128.Idx) = ValueIdx.ix3 (n0 := 32) (grid0.coords t 0) (pos t j) d := by
  obtain ⟨-, -, h2, -⟩ := idx t
  refine funext fun a => Fin.ext ?_
  match a with
  | ⟨0, _⟩ => blk_simp [h2]
  | ⟨1, _⟩ => blk_simp [h2]
  | ⟨2, _⟩ => blk_simp [h2]

/-- Where a grid point's block of the second result lies in its array. -/
theorem emb3 (t : Fin cfg0.N) (j : Fin 512) :
    ((win0_3.blk t).view.emb (ValueIdx.ix3 0 0 j) : S32x1x4096.Idx) = ValueIdx.ix3 (n0 := 32) (grid0.coords t 0) 0 (pos t j) := by
  obtain ⟨-, -, -, h3⟩ := idx t
  refine funext fun a => Fin.ext ?_
  match a with
  | ⟨0, _⟩ => blk_simp [h3]
  | ⟨1, _⟩ => blk_simp [h3]
  | ⟨2, _⟩ => blk_simp [h3]

/-- An index of a block of the first result has a first coordinate of zero. -/
theorem blk2_idx (y : S1x512x128.Idx) : ∃ (j : Fin 512) (d : Fin 128), y = ValueIdx.ix3 0 j d :=
  ⟨y 1, y 2, (ValueIdx.eq_ix3 y).trans (congrArg (fun x : Fin 1 => ValueIdx.ix3 x (y 1 : Fin 512) (y 2 : Fin 128)) (Subsingleton.elim _ _))⟩

/-- An index of a block of the second result has its first two coordinates zero. -/
theorem blk3_idx (y : S1x1x512.Idx) : ∃ j : Fin 512, y = ValueIdx.ix3 0 0 j :=
  ⟨y 2, (ValueIdx.eq_ix3 y).trans
    (congrArg₂ (fun x x' : Fin 1 => ValueIdx.ix3 x x' (y 2 : Fin 512)) (Subsingleton.elim _ _) (Subsingleton.elim _ _))⟩

/-- What a grid point writes to its block of the first result is that block of `quantV`. -/
theorem point2 (c : Dev nD) (t : Fin cfg0.N) (y : S1x512x128.Idx) :
    k0_pay3 (iblk m c 0 t) (m ((c : Thread nD τ).loc main_arg1)) y
      = quantV (m ((c : Thread nD τ).loc main_arg0)) (m ((c : Thread nD τ).loc main_arg1)) ((win0_2.blk t).view.emb y) := by
  obtain ⟨j, d, rfl⟩ := blk2_idx y
  rw [emb2]
  refine (Block.pay3_apply _ _ j d).trans ?_
  rw [code_block]
  rfl

/-- What a grid point writes to its block of the second result is that block of `codesV`. -/
theorem point3 (c : Dev nD) (t : Fin cfg0.N) (y : S1x1x512.Idx) :
    k0_pay2 (iblk m c 0 t) (m ((c : Thread nD τ).loc main_arg1)) y
      = codesV (m ((c : Thread nD τ).loc main_arg0)) (m ((c : Thread nD τ).loc main_arg1)) ((win0_3.blk t).view.emb y) := by
  obtain ⟨j, rfl⟩ := blk3_idx y
  rw [emb3]
  refine (pay2_apply _ _ j).trans ((Block.pay1_apply _ _ j).trans ?_)
  rw [code_block]
  rfl

/-- THE FIRST RESULT after the run: at every vector the nearest row of the table. -/
theorem final2 (c : Dev nD) : (dats m 0 c).arrAt 2 cfg0.N
    = quantV (m ((c : Thread nD τ).loc main_arg0)) (m ((c : Thread nD τ).loc main_arg1)) := by
  refine (dats m 0 c).arrAt_eq_of_covers 2 _ (by decide +kernel) fun t hf y => ?_
  blk_simp
  rw [after0_2, out2_eq, iblk1]
  exact point2 m c t y

/-- THE SECOND RESULT after the run: at every vector the nearest row's number. -/
theorem final3 (c : Dev nD) : (dats m 0 c).arrAt 3 cfg0.N
    = codesV (m ((c : Thread nD τ).loc main_arg0)) (m ((c : Thread nD τ).loc main_arg1)) := by
  refine (dats m 0 c).arrAt_eq_of_covers 3 _ (by decide +kernel) fun t hf y => ?_
  blk_simp
  rw [after0_3, out3_eq, iblk1]
  exact point3 m c t y

/-- THE KERNEL'S RUN: it ends with the two closed forms at its results and its arguments unchanged. -/
theorem run : θ_run defs (onTc (τ := τ) (main (F := Ideal))) ⟨m, fun _ => 0, ρ⟩ fun r => ∀ c : Dev nD,
      r.2.mem ((c : Thread nD τ).loc main_v0_0) = quantV (m ((c : Thread nD τ).loc main_arg0)) (m ((c : Thread nD τ).loc main_arg1))
      ∧ r.2.mem ((c : Thread nD τ).loc main_v0_1) = codesV (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final2 m c), ((h c).1 3).trans (final3 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

end Cert.Proof.KernelValue

end
-- ==== Proof.RefRun.lean ====
/- THE REFERENCE'S RUN: its operations in order, the calls of its three local functions in place, and what its two result
   arrays hold when it ends, as the composed terms of its arguments. -/
module

public import proofs.«01_k».proof.Proof.Gen.ReferenceIdeal
public import Idealize.ShloMosaic.Lib.StableHlo.RunHlo
public import Idealize.ShloMosaic.Lib.Claim

@[expose] public section

noncomputable section

namespace Cert.ReferenceIdeal.Run

open Cert.ReferenceIdeal Cert.ReferenceIdeal.Gen Idealize.ShloMosaic Idealize.ShloMosaic.TcCoe Idealize.ShloMosaic.StableHlo Idealize.SL.Sem

variable {F : FTy → Type} [FloatOps F]

/-- The operations before the first call: the transposed argument and the three terms of the squared distances. -/
abbrev opsDist : List (HloOp τ sig (Elt F)) :=
  [unary main_arg0 main_v0 ((transpose S32x4096x128 [0, 2, 1] · transposes_S32x128x4096_S32x4096x128_0_2_1) : (⟨S32x128x4096, .f32⟩ : BufTy).Contents (Elt F) → (⟨S32x4096x128, .f32⟩ : BufTy).Contents (Elt F)),
   binary main_v0 main_v0 main_v1 (mulf : (⟨S32x4096x128, .f32⟩ : BufTy).Contents (Elt F) → (⟨S32x4096x128, .f32⟩ : BufTy).Contents (Elt F) → (⟨S32x4096x128, .f32⟩ : BufTy).Contents (Elt F)),
   nullary main_cst (constant S_ .f32 0x00000000#32),
   binary main_v1 main_cst main_v2 ((fun x v => Host.reduceAdd x v reducesTo_S32x4096x128_S32x4096_d2 h_S_) : (⟨S32x4096x128, .f32⟩ : BufTy).Contents (Elt F) → (⟨S_, .f32⟩ : BufTy).Contents (Elt F) → (⟨S32x4096, .f32⟩ : BufTy).Contents (Elt F)),
   unary main_v2 main_v3 (broadcastInDim S32x4096x1 ![0, 1] bcast_S32x4096_S32x4096x1_0_1 : (⟨S32x4096, .f32⟩ : BufTy).Contents (Elt F) → (⟨S32x4096x1, .f32⟩ : BufTy).Contents (Elt F)),
   binary main_arg1 main_arg1 main_v4 (mulf : (⟨S1024x128, .f32⟩ : BufTy).Contents (Elt F) → (⟨S1024x128, .f32⟩ : BufTy).Contents (Elt F) → (⟨S1024x128, .f32⟩ : BufTy).Contents (Elt F)),
   nullary main_cst_0 (constant S_ .f32 0x00000000#32),
   binary main_v4 main_cst_0 main_v5 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
   binary main_v0 main_arg1 main_v6 ((fun l r => Host.dotGeneral dot_S32x4096x128_S1024x128_S32x4096x1024_2_1_01_0_n_n none l r) : (⟨S32x4096x128, .f32⟩ : BufTy).Contents (Elt F) → (⟨S1024x128, .f32⟩ : BufTy).Contents (Elt F) → (⟨S32x4096x1024, .f32⟩ : BufTy).Contents (Elt F)),
   nullary main_cst_1 (constant S_ .f32 0x40000000#32),
   unary main_cst_1 main_v7 (broadcastInDim S32x4096x1024 ![] bcast_S_S32x4096x1024 : (⟨S_, .f32⟩ : BufTy).Contents (Elt F) → (⟨S32x4096x1024, .f32⟩ : BufTy).Contents (Elt F)),
   binary main_v7 main_v6 main_v8 (mulf : (⟨S32x4096x1024, .f32⟩ : BufTy).Contents (Elt F) → (⟨S32x4096x1024, .f32⟩ : BufTy).Contents (Elt F) → (⟨S32x4096x1024, .f32⟩ : BufTy).Contents (Elt F)),
   unary main_v3 main_v9 (broadcastInDim S32x4096x1024 ![0, 1, 2] bcast_S32x4096x1_S32x4096x1024_0_1_2 : (⟨S32x4096x1, .f32⟩ : BufTy).Contents (Elt F) → (⟨S32x4096x1024, .f32⟩ : BufTy).Contents (Elt F)),
   binary main_v9 main_v8 main_v10 (subf : (⟨S32x4096x1024, .f32⟩ : BufTy).Contents (Elt F) → (⟨S32x4096x1024, .f32⟩ : BufTy).Contents (Elt F) → (⟨S32x4096x1024, .f32⟩ : BufTy).Contents (Elt F)),
   unary main_v5 main_v11 (broadcastInDim S1x1x1024 ![2] bcast_S1024_S1x1x1024_2 : (⟨S1024, .f32⟩ : BufTy).Contents (Elt F) → (⟨S1x1x1024, .f32⟩ : BufTy).Contents (Elt F)),
   unary main_v11 main_v12 (broadcastInDim S32x4096x1024 ![0, 1, 2] bcast_S1x1x1024_S32x4096x1024_0_1_2 : (⟨S1x1x1024, .f32⟩ : BufTy).Contents (Elt F) → (⟨S32x4096x1024, .f32⟩ : BufTy).Contents (Elt F)),
   binary main_v10 main_v12 main_v13 (addf : (⟨S32x4096x1024, .f32⟩ : BufTy).Contents (Elt F) → (⟨S32x4096x1024, .f32⟩ : BufTy).Contents (Elt F) → (⟨S32x4096x1024, .f32⟩ : BufTy).Contents (Elt F))]

/-- The operations of the call that takes the index of the least distance. -/
abbrev opsArgmin : List (HloOp τ sig (Elt F)) :=
  [nullary main_call0_v0 (iotaInDim S32x4096x1024 32 2),
   nullary main_call0_cst (constant S_ .f32 0x7F800000#32),
   nullary main_call0_c (constantI S_ 32 0#32),
   quaternary main_v13 main_call0_v0 main_call0_cst main_call0_c main_call0_v1_0 ((fun x y u v j => (Host.argReduce reducer_argmin_f32_i32 x y u v reducesTo_S32x4096x1024_S32x4096_d2 h_S_ j).1) : (⟨S32x4096x1024, .f32⟩ : BufTy).Contents (Elt F) → (⟨S32x4096x1024, .i32⟩ : BufTy).Contents (Elt F) → (⟨S_, .f32⟩ : BufTy).Contents (Elt F) → (⟨S_, .i32⟩ : BufTy).Contents (Elt F) → (⟨S32x4096, .f32⟩ : BufTy).Contents (Elt F)),
   quaternary main_v13 main_call0_v0 main_call0_cst main_call0_c main_v14 ((fun x y u v j => (Host.argReduce reducer_argmin_f32_i32 x y u v reducesTo_S32x4096x1024_S32x4096_d2 h_S_ j).2) : (⟨S32x4096x1024, .f32⟩ : BufTy).Contents (Elt F) → (⟨S32x4096x1024, .i32⟩ : BufTy).Contents (Elt F) → (⟨S_, .f32⟩ : BufTy).Contents (Elt F) → (⟨S_, .i32⟩ : BufTy).Contents (Elt F) → (⟨S32x4096, .i32⟩ : BufTy).Contents (Elt F))]

/-- The operations of the call that takes the table's rows at the indices. -/
abbrev opsTake : List (HloOp τ sig (Elt F)) :=
  [nullary main_call1_c (constantI S_ 32 0#32),
   unary main_call1_c main_call1_v0 (broadcastInDim S32x4096 ![] bcast_S_S32x4096 : (⟨S_, .i32⟩ : BufTy).Contents (Elt F) → (⟨S32x4096, .i32⟩ : BufTy).Contents (Elt F)),
   binary main_v14 main_call1_v0 main_call1_v1 (cmpi .slt : (⟨S32x4096, .i32⟩ : BufTy).Contents (Elt F) → (⟨S32x4096, .i32⟩ : BufTy).Contents (Elt F) → (⟨S32x4096, .i1⟩ : BufTy).Contents (Elt F)),
   nullary main_call1_c_0 (constantI S_ 32 1024#32),
   unary main_call1_c_0 main_call1_v2 (broadcastInDim S32x4096 ![] bcast_S_S32x4096 : (⟨S_, .i32⟩ : BufTy).Contents (Elt F) → (⟨S32x4096, .i32⟩ : BufTy).Contents (Elt F)),
   binary main_v14 main_call1_v2 main_call1_v3 (addi : (⟨S32x4096, .i32⟩ : BufTy).Contents (Elt F) → (⟨S32x4096, .i32⟩ : BufTy).Contents (Elt F) → (⟨S32x4096, .i32⟩ : BufTy).Contents (Elt F)),
   ternary main_call1_v1 main_call1_v3 main_v14 main_call1_v4 (select : (⟨S32x4096, .i1⟩ : BufTy).Contents (Elt F) → (⟨S32x4096, .i32⟩ : BufTy).Contents (Elt F) → (⟨S32x4096, .i32⟩ : BufTy).Contents (Elt F) → (⟨S32x4096, .i32⟩ : BufTy).Contents (Elt F)),
   unary main_call1_v4 main_call1_v5 (broadcastInDim S32x4096x1 ![0, 1] bcast_S32x4096_S32x4096x1_0_1 : (⟨S32x4096, .i32⟩ : BufTy).Contents (Elt F) → (⟨S32x4096x1, .i32⟩ : BufTy).Contents (Elt F)),
   nullary main_call1_c_1 (constantI S1 32 1023#32),
   nullary main_call1_c_2 (constantI S_ 32 0#32),
   unary main_call1_c_2 main_call1_v6 (broadcastInDim S32x4096x1 ![] bcast_S_S32x4096x1 : (⟨S_, .i32⟩ : BufTy).Contents (Elt F) → (⟨S32x4096x1, .i32⟩ : BufTy).Contents (Elt F)),
   binary main_call1_v5 main_call1_v6 main_call1_v7 (cmpi .sge : (⟨S32x4096x1, .i32⟩ : BufTy).Contents (Elt F) → (⟨S32x4096x1, .i32⟩ : BufTy).Contents (Elt F) → (⟨S32x4096x1, .i1⟩ : BufTy).Contents (Elt F)),
   unary main_call1_c_1 main_call1_v8 (broadcastInDim S1x1x1 ![2] bcast_S1_S1x1x1_2 : (⟨S1, .i32⟩ : BufTy).Contents (Elt F) → (⟨S1x1x1, .i32⟩ : BufTy).Contents (Elt F)),
   unary main_call1_v8 main_call1_v9 (broadcastInDim S32x4096x1 ![0, 1, 2] bcast_S1x1x1_S32x4096x1_0_1_2 : (⟨S1x1x1, .i32⟩ : BufTy).Contents (Elt F) → (⟨S32x4096x1, .i32⟩ : BufTy).Contents (Elt F)),
   binary main_call1_v5 main_call1_v9 main_call1_v10 (cmpi .sle : (⟨S32x4096x1, .i32⟩ : BufTy).Contents (Elt F) → (⟨S32x4096x1, .i32⟩ : BufTy).Contents (Elt F) → (⟨S32x4096x1, .i1⟩ : BufTy).Contents (Elt F)),
   binary main_call1_v7 main_call1_v10 main_call1_v11 (andi : (⟨S32x4096x1, .i1⟩ : BufTy).Contents (Elt F) → (⟨S32x4096x1, .i1⟩ : BufTy).Contents (Elt F) → (⟨S32x4096x1, .i1⟩ : BufTy).Contents (Elt F)),
   nullary main_call1_c_3 (constantI S_ 1 1#1),
   binary main_call1_v11 main_call1_c_3 main_call1_v12 ((fun x v => Host.reduce IntOp.andi x v reducesTo_S32x4096x1_S32x4096_d2 h_S_) : (⟨S32x4096x1, .i1⟩ : BufTy).Contents (Elt F) → (⟨S_, .i1⟩ : BufTy).Contents (Elt F) → (⟨S32x4096, .i1⟩ : BufTy).Contents (Elt F)),
   binary main_arg1 main_call1_v5 main_call1_v13 ((fun x i => Host.gather gather_S1024x128_S32x4096x1_S32x4096x128_2_0_n_n_0_2_1128 x i) : (⟨S1024x128, .f32⟩ : BufTy).Contents (Elt F) → (⟨S32x4096x1, .i32⟩ : BufTy).Contents (Elt F) → (⟨S32x4096x128, .f32⟩ : BufTy).Contents (Elt F)),
   unary main_call1_v12 main_call1_v14 (broadcastInDim S32x4096x128 ![0, 1] bcast_S32x4096_S32x4096x128_0_1 : (⟨S32x4096, .i1⟩ : BufTy).Contents (Elt F) → (⟨S32x4096x128, .i1⟩ : BufTy).Contents (Elt F)),
   nullary main_call1_cst (constant S_ .f32 0x7FC00000#32),
   unary main_call1_cst main_call1_v15 (broadcastInDim S32x4096x128 ![] bcast_S_S32x4096x128 : (⟨S_, .f32⟩ : BufTy).Contents (Elt F) → (⟨S32x4096x128, .f32⟩ : BufTy).Contents (Elt F)),
   ternary main_call1_v14 main_call1_v13 main_call1_v15 main_v15 (select : (⟨S32x4096x128, .i1⟩ : BufTy).Contents (Elt F) → (⟨S32x4096x128, .f32⟩ : BufTy).Contents (Elt F) → (⟨S32x4096x128, .f32⟩ : BufTy).Contents (Elt F) → (⟨S32x4096x128, .f32⟩ : BufTy).Contents (Elt F))]

/-- The last operation: the indices as a three-axis array. -/
abbrev opsOut : List (HloOp τ sig (Elt F)) :=
  [unary main_v14 main_v16 (broadcastInDim S32x1x4096 ![0, 2] bcast_S32x4096_S32x1x4096_0_2 : (⟨S32x4096, .i32⟩ : BufTy).Contents (Elt F) → (⟨S32x1x4096, .i32⟩ : BufTy).Contents (Elt F))]

/-- All the reference's operations, in order. -/
abbrev ops : List (HloOp τ sig (Elt F)) := opsDist ++ (opsArgmin ++ (opsTake ++ opsOut))

set_option maxRecDepth 1000000 in
/-- The reference is the straight line of those operations. -/
theorem main_eq (d : Dev nD) : IsSeq (main (F := F) d) ops := rfl

/-- A line of operations run after another, as one. -/
theorem after_concat (l₁ l₂ : List (HloOp τ sig (Elt F))) (V : Valuation τ sig (Elt F)) : after (l₁ ++ l₂) V = after l₂ (after l₁ V) := by
  induction l₁ generalizing V with
  | nil => rfl
  | cons op l ih => exact ih _

/-- The squared distances, as the reference composes them from the vectors and the table. -/
def distV (a : FVec F S32x128x4096 .f32) (e : FVec F S1024x128 .f32) : FVec F S32x4096x1024 .f32 :=
  addf
    (subf
      (broadcastInDim S32x4096x1024 ![0, 1, 2] bcast_S32x4096x1_S32x4096x1024_0_1_2
        (broadcastInDim S32x4096x1 ![0, 1] bcast_S32x4096_S32x4096x1_0_1
          (Host.reduceAdd
            (mulf (transpose S32x4096x128 [0, 2, 1] a transposes_S32x128x4096_S32x4096x128_0_2_1)
              (transpose S32x4096x128 [0, 2, 1] a transposes_S32x128x4096_S32x4096x128_0_2_1))
            (constant S_ .f32 0x00000000#32) reducesTo_S32x4096x128_S32x4096_d2 h_S_)))
      (mulf (broadcastInDim S32x4096x1024 ![] bcast_S_S32x4096x1024 (constant S_ .f32 0x40000000#32))
        (Host.dotGeneral dot_S32x4096x128_S1024x128_S32x4096x1024_2_1_01_0_n_n none
          (transpose S32x4096x128 [0, 2, 1] a transposes_S32x128x4096_S32x4096x128_0_2_1) e)))
    (broadcastInDim S32x4096x1024 ![0, 1, 2] bcast_S1x1x1024_S32x4096x1024_0_1_2
      (broadcastInDim S1x1x1024 ![2] bcast_S1024_S1x1x1024_2
        (Host.reduceAdd (mulf e e) (constant S_ .f32 0x00000000#32) reducesTo_S1024x128_S1024_d1 h_S_)))

/-- The second components of an index reduction, the indices. -/
def argIdx {s t u : Shape} {c : List (Fin s.rank)} (f : F .f32 × BitVec 32 → F .f32 × BitVec 32 → F .f32 × BitVec 32)
    (x : FVec F s .f32) (y : IVec s 32) (ix : FVec F u .f32) (iy : IVec u 32) (h : s.ReducesTo c t) (hu : 0 < u.numel) : IVec t 32 :=
  fun j => (Host.argReduce f x y ix iy h hu j).2

/-- The index of the least of 1024 values, as the reference takes it. -/
def argminV (x : FVec F S32x4096x1024 .f32) : IVec S32x4096 32 :=
  argIdx reducer_argmin_f32_i32 x (iotaInDim S32x4096x1024 32 2) (constant S_ .f32 0x7F800000#32)
    (constantI S_ 32 0#32) reducesTo_S32x4096x1024_S32x4096_d2 h_S_

/-- The row numbers that the reference reads at: an index below zero counts from the end. -/
def rowsV (i : IVec S32x4096 32) : IVec S32x4096x1 32 :=
  broadcastInDim S32x4096x1 ![0, 1] bcast_S32x4096_S32x4096x1_0_1
    (select (cmpi .slt i (broadcastInDim S32x4096 ![] bcast_S_S32x4096 (constantI S_ 32 0#32)))
      (addi i (broadcastInDim S32x4096 ![] bcast_S_S32x4096 (constantI S_ 32 1024#32))) i)

/-- Where such a row number lies in the table. -/
def inTableV (r : IVec S32x4096x1 32) : IVec S32x4096 1 :=
  Host.reduce IntOp.andi
    (andi (cmpi .sge r (broadcastInDim S32x4096x1 ![] bcast_S_S32x4096x1 (constantI S_ 32 0#32)))
      (cmpi .sle r (broadcastInDim S32x4096x1 ![0, 1, 2] bcast_S1x1x1_S32x4096x1_0_1_2
        (broadcastInDim S1x1x1 ![2] bcast_S1_S1x1x1_2 (constantI S1 32 1023#32)))))
    (constantI S_ 1 1#1) reducesTo_S32x4096x1_S32x4096_d2 h_S_

/-- The table's rows at the indices, as the reference takes them: a row outside the table is filled with a constant. -/
def takeV (e : FVec F S1024x128 .f32) (i : IVec S32x4096 32) : FVec F S32x4096x128 .f32 :=
  select (broadcastInDim S32x4096x128 ![0, 1] bcast_S32x4096_S32x4096x128_0_1 (inTableV (rowsV i)))
    (Host.gather gather_S1024x128_S32x4096x1_S32x4096x128_2_0_n_n_0_2_1128 e (rowsV i))
    (broadcastInDim S32x4096x128 ![] bcast_S_S32x4096x128 (constant S_ .f32 0x7FC00000#32))

/-- The indices as the reference returns them. -/
def outV (i : IVec S32x4096 32) : IVec S32x1x4096 32 :=
  broadcastInDim S32x1x4096 ![0, 2] bcast_S32x4096_S32x1x4096_0_2 i

variable (V : Valuation τ sig (Elt F))

set_option maxHeartbeats 2000000 in
/-- What the first operations leave at the distances' array. -/
theorem dist_v13 : after opsDist V (Proc.devRef .tc main_v13) = distV (V (Proc.devRef .tc main_arg0)) (V (Proc.devRef .tc main_arg1)) := by
  after_results_simp
  rfl

set_option maxHeartbeats 2000000 in
/-- The first operations leave the first argument alone. -/
theorem dist_arg0 : after opsDist V (Proc.devRef .tc main_arg0) = V (Proc.devRef .tc main_arg0) := by
  after_results_simp

set_option maxHeartbeats 2000000 in
/-- The first operations leave the second argument alone. -/
theorem dist_arg1 : after opsDist V (Proc.devRef .tc main_arg1) = V (Proc.devRef .tc main_arg1) := by
  after_results_simp

/-- What the first call leaves at the indices' array. -/
theorem argmin_v14 : after opsArgmin V (Proc.devRef .tc main_v14) = argminV (V (Proc.devRef .tc main_v13)) := by
  after_results_simp
  rfl

/-- The first call leaves the first argument alone. -/
theorem argmin_arg0 : after opsArgmin V (Proc.devRef .tc main_arg0) = V (Proc.devRef .tc main_arg0) := by
  after_results_simp

/-- The first call leaves the second argument alone. -/
theorem argmin_arg1 : after opsArgmin V (Proc.devRef .tc main_arg1) = V (Proc.devRef .tc main_arg1) := by
  after_results_simp

set_option maxHeartbeats 4000000 in
/-- What the second call leaves at the rows' array. -/
theorem take_v15 : after opsTake V (Proc.devRef .tc main_v15) = takeV (V (Proc.devRef .tc main_arg1)) (V (Proc.devRef .tc main_v14)) := by
  after_results_simp
  rfl

set_option maxHeartbeats 2000000 in
/-- The second call leaves the indices alone. -/
theorem take_v14 : after opsTake V (Proc.devRef .tc main_v14) = V (Proc.devRef .tc main_v14) := by
  after_results_simp

set_option maxHeartbeats 2000000 in
/-- The second call leaves the first argument alone. -/
theorem take_arg0 : after opsTake V (Proc.devRef .tc main_arg0) = V (Proc.devRef .tc main_arg0) := by
  after_results_simp

set_option maxHeartbeats 2000000 in
/-- The second call leaves the second argument alone. -/
theorem take_arg1 : after opsTake V (Proc.devRef .tc main_arg1) = V (Proc.devRef .tc main_arg1) := by
  after_results_simp

/-- What the last operation leaves at its array. -/
theorem out_v16 : after opsOut V (Proc.devRef .tc main_v16) = outV (V (Proc.devRef .tc main_v14)) := by
  after_results_simp
  rfl

/-- The last operation leaves the rows alone. -/
theorem out_v15 : after opsOut V (Proc.devRef .tc main_v15) = V (Proc.devRef .tc main_v15) := by
  after_results_simp

/-- The last operation leaves the first argument alone. -/
theorem out_arg0 : after opsOut V (Proc.devRef .tc main_arg0) = V (Proc.devRef .tc main_arg0) := by
  after_results_simp

/-- The last operation leaves the second argument alone. -/
theorem out_arg1 : after opsOut V (Proc.devRef .tc main_arg1) = V (Proc.devRef .tc main_arg1) := by
  after_results_simp

/-- What the whole reference leaves at the rows' array. -/
theorem ops_v15 : after ops V (Proc.devRef .tc main_v15)
    = takeV (V (Proc.devRef .tc main_arg1)) (argminV (distV (V (Proc.devRef .tc main_arg0)) (V (Proc.devRef .tc main_arg1)))) := by
  rw [after_concat, after_concat, after_concat, out_v15, take_v15, argmin_arg1, argmin_v14, dist_arg1, dist_v13]

/-- What the whole reference leaves at the indices' array. -/
theorem ops_v16 : after ops V (Proc.devRef .tc main_v16)
    = outV (argminV (distV (V (Proc.devRef .tc main_arg0)) (V (Proc.devRef .tc main_arg1)))) := by
  rw [after_concat, after_concat, after_concat, out_v16, take_v14, argmin_v14, dist_v13]

/-- The reference leaves its first argument alone. -/
theorem ops_arg0 : after ops V (Proc.devRef .tc main_arg0) = V (Proc.devRef .tc main_arg0) := by
  rw [after_concat, after_concat, after_concat, out_arg0, take_arg0, argmin_arg0, dist_arg0]

/-- The reference leaves its second argument alone. -/
theorem ops_arg1 : after ops V (Proc.devRef .tc main_arg1) = V (Proc.devRef .tc main_arg1) := by
  rw [after_concat, after_concat, after_concat, out_arg1, take_arg1, argmin_arg1, dist_arg1]

variable (m : (ℓ : Loc nD τ sig) → Buf (Elt F) ℓ) (ρ : Dev nD → PrngReg)

/-- THE REFERENCE'S RUN: it ends with the two composed terms at its results and its arguments unchanged. -/
theorem run : θ_run defs (onTc (τ := τ) (main (F := F))) ⟨m, fun _ => 0, ρ⟩ fun r => ∀ c : Dev nD,
      r.2.mem ((c : Thread nD τ).loc main_v15)
        = takeV (m ((c : Thread nD τ).loc main_arg1)) (argminV (distV (m ((c : Thread nD τ).loc main_arg0)) (m ((c : Thread nD τ).loc main_arg1))))
      ∧ r.2.mem ((c : Thread nD τ).loc main_v16)
        = outV (argminV (distV (m ((c : Thread nD τ).loc main_arg0)) (m ((c : Thread nD τ).loc main_arg1))))
      ∧ r.2.mem ((c : Thread nD τ).loc main_arg0) = m ((c : Thread nD τ).loc main_arg0)
      ∧ r.2.mem ((c : Thread nD τ).loc main_arg1) = m ((c : Thread nD τ).loc main_arg1) :=
  θ_run_mono (run_hlo defs main main_eq (by decide) (by decide) (by simp)
      (by intro _ h; (repeat (cases h with | head => rfl | tail _ h => ?_)); exact nomatch h) m ρ) fun r h c =>
    ⟨(h c main_v15).trans (ops_v15 _), (h c main_v16).trans (ops_v16 _), (h c main_arg0).trans (ops_arg0 _),
      (h c main_arg1).trans (ops_arg1 _)⟩

end Cert.ReferenceIdeal.Run

end
-- ==== Proof.RefValue.lean ====
/- THE REFERENCE'S TWO RESULTS, INDEX BY INDEX: its squared distances are those of `dist2`, the index it takes is that of the
   nearest row of the table, and the row it reads there is that row; so its results are `quantV` and `codesV`. -/
module

public import proofs.«01_k».proof.Proof.RefRun
public import proofs.«01_k».proof.Proof.Spec
public import Idealize.ShloMosaic.Lib.Pipeline.Value
public import Idealize.ShloMosaic.PureOps.Ideal.Laws

@[expose] public section

noncomputable section

namespace Cert.Proof.RefValue

open Cert.ReferenceIdeal Cert.ReferenceIdeal.Gen Cert.ReferenceIdeal.Run Idealize.ShloMosaic Idealize.ShloMosaic.ValueIdx Idealize.SL.Sem

variable (a : FVec Ideal S32x128x4096 .f32) (e : FVec Ideal S1024x128 .f32)

/-- Vector `t` of batch element `b`. -/
abbrev vecAt (b : Fin 32) (t : Fin 4096) (d : Fin 128) : EReal := a (ix3 b d t)

/-- Row `k` of the table. -/
abbrev rowAt (k : Fin 1024) (d : Fin 128) : EReal := e (ix2 k d)

/-- The vectors with their coordinates last. -/
abbrev vecs : FVec Ideal S32x4096x128 .f32 := transpose S32x4096x128 [0, 2, 1] a transposes_S32x128x4096_S32x4096x128_0_2_1

/-- The vectors with their coordinates last, at an index. -/
theorem vecs_apply (b : Fin 32) (t : Fin 4096) (d : Fin 128) : vecs a (ix3 b t d) = vecAt a b t d :=
  transpose_apply _ _ _ _ (ix3 b d t) (by
    intro k
    match k with
    | ⟨0, _⟩ => rfl
    | ⟨1, _⟩ => rfl
    | ⟨2, _⟩ => rfl)

/-- The axis that the vectors' sums run along, as the reductions' lemmas name it. -/
theorem red_vec : S32x4096x128.Reduces [2] S32x4096 := by decide

/-- The axis that the rows' sums run along. -/
theorem red_row : S1024x128.Reduces [1] S1024 := by decide

/-- The axis that the least distance is taken along. -/
theorem red_dist : S32x4096x1024.Reduces [2] S32x4096 := by decide

/-- The axis of one that the range check is folded along. -/
theorem red_one : S32x4096x1.Reduces [2] S32x4096 := by decide

/-- A vector's sum of squares. -/
theorem vecSq_apply (b : Fin 32) (t : Fin 4096) :
    Host.reduceAdd (mulf (vecs a) (vecs a)) (constant S_ .f32 0x00000000#32) reducesTo_S32x4096x128_S32x4096_d2 h_S_ (ix2 b t)
      = ∑ d, vecAt a b t d * vecAt a b t d := by
  refine (Ideal.hostReduceAdd_single reducesTo_S32x4096x128_S32x4096_d2 red_vec (mulf (vecs a) (vecs a)) (Ideal.ofBits .f32 0x00000000#32) (ix2 b t)).trans ?_
  rw [Ideal.ofBits_zero_f32, zero_add]
  refine Finset.sum_congr rfl fun d _ => ?_
  have hl : red_vec.lift (ix2 b t) d = ix3 b t d := by
    funext k; refine Fin.ext ?_
    match k with
    | ⟨0, _⟩ => rfl
    | ⟨1, _⟩ => rfl
    | ⟨2, _⟩ => rfl
  rw [hl]
  exact congrArg₂ (· * ·) (vecs_apply a b t d) (vecs_apply a b t d)

/-- A row's sum of squares. -/
theorem rowSq_apply (k : Fin 1024) :
    Host.reduceAdd (mulf e e) (constant S_ .f32 0x00000000#32) reducesTo_S1024x128_S1024_d1 h_S_ (ix1 k)
      = ∑ d, rowAt e k d * rowAt e k d := by
  refine (Ideal.hostReduceAdd_single reducesTo_S1024x128_S1024_d1 red_row (mulf e e) (Ideal.ofBits .f32 0x00000000#32) (ix1 k)).trans ?_
  rw [Ideal.ofBits_zero_f32, zero_add]
  refine Finset.sum_congr rfl fun d _ => ?_
  have hl : red_row.lift (ix1 k) d = ix2 k d := by
    funext k; refine Fin.ext ?_
    match k with
    | ⟨0, _⟩ => rfl
    | ⟨1, _⟩ => rfl
  rw [hl]
  rfl

/-- The product of a vector with a row; multiplication commutes, so it is the kernel's. -/
theorem prods_apply (b : Fin 32) (t : Fin 4096) (k : Fin 1024) :
    Host.dotGeneral dot_S32x4096x128_S1024x128_S32x4096x1024_2_1_01_0_n_n none (vecs a) e (ix3 b t k)
      = ∑ d, rowAt e k d * vecAt a b t d := by
  simp only [Host.dotGeneral]
  rw [Ideal.dotGeneral_apply]
  rw [← Equiv.sum_comp (contrEquiv1 dot_S32x4096x128_S1024x128_S32x4096x1024_2_1_01_0_n_n 128 rfl rfl).symm]
  refine Finset.sum_congr rfl fun d _ => ?_
  have hv := contrEquiv1_symm_val dot_S32x4096x128_S1024x128_S32x4096x1024_2_1_01_0_n_n 128 rfl rfl d
  have h1 : dot_S32x4096x128_S1024x128_S32x4096x1024_2_1_01_0_n_n.lhsIdx (ix3 b t k)
      ((contrEquiv1 dot_S32x4096x128_S1024x128_S32x4096x1024_2_1_01_0_n_n 128 rfl rfl).symm d) = ix3 b t d := by
    funext x; refine Fin.ext ?_
    match x with
    | ⟨0, _⟩ => rfl
    | ⟨1, _⟩ => rfl
    | ⟨2, _⟩ => exact hv
  have h2 : dot_S32x4096x128_S1024x128_S32x4096x1024_2_1_01_0_n_n.rhsIdx (ix3 b t k)
      ((contrEquiv1 dot_S32x4096x128_S1024x128_S32x4096x1024_2_1_01_0_n_n 128 rfl rfl).symm d) = ix2 k d := by
    funext x; refine Fin.ext ?_
    match x with
    | ⟨0, _⟩ => rfl
    | ⟨1, _⟩ => exact hv
  rw [h1, h2, vecs_apply]
  exact mul_comm _ _

/-- The reference's squared distance of a vector and a row. -/
theorem dist_apply (b : Fin 32) (t : Fin 4096) (k : Fin 1024) : distV a e (ix3 b t k) = dist2 (vecAt a b t) (rowAt e) k := by
  have hx : broadcastInDim S32x4096x1024 ![0, 1, 2] bcast_S32x4096x1_S32x4096x1024_0_1_2
        (broadcastInDim S32x4096x1 ![0, 1] bcast_S32x4096_S32x4096x1_0_1
          (Host.reduceAdd (mulf (vecs a) (vecs a)) (constant S_ .f32 0x00000000#32) reducesTo_S32x4096x128_S32x4096_d2 h_S_)) (ix3 b t k)
      = ∑ d, vecAt a b t d * vecAt a b t d :=
    (broadcastInDim_apply _ _ _ _ (ix3 b t 0) (by
      intro x
      match x with
      | ⟨0, _⟩ => rfl
      | ⟨1, _⟩ => rfl
      | ⟨2, _⟩ => rfl)).trans
    ((broadcastInDim_apply _ _ _ _ (ix2 b t) (by
      intro x
      match x with
      | ⟨0, _⟩ => rfl
      | ⟨1, _⟩ => rfl)).trans (vecSq_apply a b t))
  have he : broadcastInDim S32x4096x1024 ![0, 1, 2] bcast_S1x1x1024_S32x4096x1024_0_1_2
        (broadcastInDim S1x1x1024 ![2] bcast_S1024_S1x1x1024_2
          (Host.reduceAdd (mulf e e) (constant S_ .f32 0x00000000#32) reducesTo_S1024x128_S1024_d1 h_S_)) (ix3 b t k)
      = ∑ d, rowAt e k d * rowAt e k d :=
    (broadcastInDim_apply _ _ _ _ (ix3 0 0 k) (by
      intro x
      match x with
      | ⟨0, _⟩ => rfl
      | ⟨1, _⟩ => rfl
      | ⟨2, _⟩ => rfl)).trans
    ((broadcastInDim_apply _ _ _ _ (ix1 k) (by
      intro x
      match x with
      | ⟨0, _⟩ => rfl)).trans (rowSq_apply e k))
  have h2 : broadcastInDim S32x4096x1024 ![] bcast_S_S32x4096x1024 (constant (F := Ideal) S_ .f32 0x40000000#32) (ix3 b t k)
      = Ideal.ofBits .f32 0x40000000#32 := rfl
  exact congrArg₂ (fun x y : EReal => x + y)
    (congrArg₂ (fun x y : EReal => x - y) hx (congrArg₂ (fun x y : EReal => x * y) h2 (prods_apply a e b t k))) he

/-- A one-bit choice by a decided condition. -/
theorem select_decide {α : Type} (c : Prop) [Decidable c] (x y : α) : Scalar.select (BitVec.ofBool (decide c)) x y = if c then x else y := by
  by_cases h : c <;> simp [h, Scalar.select]

/-- A one-bit choice by one takes the first. -/
theorem select_taken {α : Type} (x y : α) : Scalar.select 1#1 x y = x := by simp [Scalar.select]

/-- The reference's comparison of two candidates keeps the lesser value, and of equal values the lesser index. -/
theorem reducer_eq (p q : EReal × BitVec 32) : reducer_argmin_f32_i32 (F := Ideal) p q
    = if p.1 < q.1 ∨ (p.1 = q.1 ∧ p.2.toInt < q.2.toInt) then p else q := by
  obtain ⟨x, i⟩ := p
  obtain ⟨y, j⟩ := q
  have h4 : IntOp.ori (FloatOps.cmpf (F := Ideal) (φ := .f32) .olt x y) (FloatOps.cmpf (F := Ideal) (φ := .f32) .une x x) = BitVec.ofBool (decide (x < y)) := by
    by_cases h : x < y <;> simp [Ideal.cmpf_def, Ideal.cmp, IntOp.ori, h]
  have h7 : IntOp.andi (FloatOps.cmpf (F := Ideal) (φ := .f32) .oeq x y) (IntOp.cmpi .slt i j) = BitVec.ofBool (decide (x = y ∧ i.toInt < j.toInt)) := by
    by_cases h : x = y <;> by_cases h' : i.toInt < j.toInt <;> simp [Ideal.cmpf_def, Ideal.cmp, IntOp.andi, IntOp.cmpi, BitVec.slt, h, h']
  have h8 : IntOp.ori (BitVec.ofBool (decide (x < y))) (BitVec.ofBool (decide (x = y ∧ i.toInt < j.toInt)))
      = BitVec.ofBool (decide (x < y ∨ (x = y ∧ i.toInt < j.toInt))) := by
    by_cases h : x < y <;> by_cases h' : (x = y ∧ i.toInt < j.toInt) <;> simp [IntOp.ori, h, h']
  have he : reducer_argmin_f32_i32 (F := Ideal) (x, i) (y, j)
      = (if x < y then x else y, if x < y ∨ (x = y ∧ i.toInt < j.toInt) then i else j) := by
    show (Scalar.select (IntOp.ori (FloatOps.cmpf (F := Ideal) (φ := .f32) .olt x y) (FloatOps.cmpf (F := Ideal) (φ := .f32) .une x x)) x y,
      Scalar.select (IntOp.ori (IntOp.ori (FloatOps.cmpf (F := Ideal) (φ := .f32) .olt x y) (FloatOps.cmpf (F := Ideal) (φ := .f32) .une x x))
        (IntOp.andi (FloatOps.cmpf (F := Ideal) (φ := .f32) .oeq x y) (IntOp.cmpi .slt i j))) i j) = _
    rw [h4, h7, h8, select_decide, select_decide]
  rw [he]
  show _ = if x < y ∨ (x = y ∧ i.toInt < j.toInt) then (x, i) else (y, j)
  by_cases h : x < y
  · rw [if_pos h, if_pos (Or.inl h), if_pos (Or.inl h)]
  · by_cases h' : x = y ∧ i.toInt < j.toInt
    · rw [if_neg h, if_pos (Or.inr h'), if_pos (Or.inr h'), h'.1]
    · rw [if_neg h, if_neg (by simp only [not_or]; exact ⟨h, h'⟩), if_neg (by simp only [not_or]; exact ⟨h, h'⟩)]

/-- The comparison's result is at most its first candidate. -/
theorem reducer_left (p q : EReal × BitVec 32) : PairLE (reducer_argmin_f32_i32 (F := Ideal) p q) p := by
  rw [reducer_eq]
  by_cases h : p.1 < q.1 ∨ (p.1 = q.1 ∧ p.2.toInt < q.2.toInt)
  · rw [if_pos h]; exact Or.inr ⟨rfl, le_rfl⟩
  · rw [if_neg h]
    obtain ⟨h1, h2⟩ := not_or.mp h
    rcases lt_or_eq_of_le (not_lt.mp h1) with h3 | h3
    · exact Or.inl h3
    · exact Or.inr ⟨h3, not_lt.mp fun h4 => h2 ⟨h3.symm, h4⟩⟩

/-- The comparison's result is at most its second candidate. -/
theorem reducer_right (p q : EReal × BitVec 32) : PairLE (reducer_argmin_f32_i32 (F := Ideal) p q) q := by
  rw [reducer_eq]
  by_cases h : p.1 < q.1 ∨ (p.1 = q.1 ∧ p.2.toInt < q.2.toInt)
  · rw [if_pos h]
    rcases h with h | h
    · exact Or.inl h
    · exact Or.inr ⟨h.1, h.2.le⟩
  · rw [if_neg h]; exact Or.inr ⟨rfl, le_rfl⟩

/-- The comparison's result is one of its candidates. -/
theorem reducer_one (p q : EReal × BitVec 32) : reducer_argmin_f32_i32 (F := Ideal) p q = p ∨ reducer_argmin_f32_i32 (F := Ideal) p q = q := by
  rw [reducer_eq]
  by_cases h : p.1 < q.1 ∨ (p.1 = q.1 ∧ p.2.toInt < q.2.toInt)
  · exact Or.inl (if_pos h)
  · exact Or.inr (if_neg h)

/-- Where row `k` lies over a vector. -/
theorem lift_eq (b : Fin 32) (t : Fin 4096) (k : Fin 1024) : red_dist.lift (ix2 b t) k = ix3 b t k := by
  funext x; refine Fin.ext ?_
  match x with
  | ⟨0, _⟩ => rfl
  | ⟨1, _⟩ => rfl
  | ⟨2, _⟩ => rfl

/-- The pairs that a reduction of one axis meets at a result index are those over the axis' coordinates. -/
theorem mem_fiber {s t : Shape} {c : Fin s.rank} {α β : Type} (x : s.Idx → α) (y : s.Idx → β) (h' : s.ReducesTo [c] t) (h : s.Reduces [c] t)
    (j : t.Idx) (p : α × β) : p ∈ Host.argReduceFiber x y h' j ↔ ∃ k : Fin (s.size c), p = (x (h.lift j k), y (h.lift j k)) := by
  unfold Host.argReduceFiber
  constructor
  · intro hp
    obtain ⟨n, hn, rfl⟩ := List.mem_map.mp hp
    have hd := of_decide_eq_true (List.mem_filter.mp hn).2
    rw [Shape.ReducesTo.drop_eq_drop h' h] at hd
    have hl := h.lift_drop (s.rowMajor.symm n)
    rw [hd] at hl
    exact ⟨_, by rw [hl]⟩
  · rintro ⟨k, rfl⟩
    refine List.mem_map.mpr ⟨s.rowMajor (h.lift j k), List.mem_filter.mpr ⟨List.mem_finRange _, decide_eq_true ?_⟩, ?_⟩
    · rw [Equiv.symm_apply_apply, Shape.ReducesTo.drop_eq_drop h' h]
      exact h.drop_lift j k
    · rw [Equiv.symm_apply_apply]

/-- An index reduction of one axis of 1024 values, by a comparison that keeps the least pair, ends at the index `firstMin`. -/
theorem argReduce_firstMin {s t u : Shape} {c : Fin s.rank} (f : EReal × BitVec 32 → EReal × BitVec 32 → EReal × BitVec 32)
    (hl : ∀ p q, PairLE (f p q) p) (hr : ∀ p q, PairLE (f p q) q) (hc : ∀ p q, f p q = p ∨ f p q = q)
    (x : FVec Ideal s .f32) (y : IVec s 32) (ix : FVec Ideal u .f32) (iy : IVec u 32) (h' : s.ReducesTo [c] t) (h : s.Reduces [c] t)
    (hu : 0 < u.numel) (hx : ∀ i, ix i = (⊤ : EReal)) (hy : ∀ i, iy i = 0#32) (j : t.Idx) (n : 1024 = s.size c)
    (v : Fin 1024 → EReal) (hv : ∀ k : Fin 1024, x (h.lift j (k.cast n)) = v k)
    (hi : ∀ k : Fin 1024, y (h.lift j (k.cast n)) = BitVec.ofNat 32 k.val) :
    argIdx f x y ix iy h' hu j = BitVec.ofNat 32 (firstMin v).val := by
  unfold argIdx
  rw [Ideal.argReduce_eq_reduce2, Host.reduce2_eq_foldl_fiber, hx, hy]
  refine foldl_least_firstMin f hl hr hc v _ ?_ ?_
  · intro p hp
    obtain ⟨k, rfl⟩ := (mem_fiber x y h' h j p).mp hp
    refine ⟨k.cast n.symm, ?_⟩
    rw [← hv, ← hi]
    rfl
  · intro k
    refine (mem_fiber x y h' h j _).mpr ⟨k.cast n, ?_⟩
    rw [hv, hi]

/-- The accumulator that the reference starts its least distance from is the top value. -/
theorem top_apply (i : S_.Idx) : constant (F := Ideal) S_ .f32 0x7F800000#32 i = (⊤ : EReal) := by
  show Ideal.ofBits .f32 0x7F800000#32 = _
  simp [Ideal.ofBits, Ideal.ieee]

/-- The reference's distance of the row that lies `k`-th over a vector. -/
theorem dist_lift (b : Fin 32) (t : Fin 4096) (k : Fin 1024) :
    distV a e (red_dist.lift (ix2 b t) (k.cast rfl)) = dist2 (vecAt a b t) (rowAt e) k :=
  (congrArg (distV a e) (lift_eq b t k)).trans (dist_apply a e b t k)

/-- The number that the reference gives the row that lies `k`-th over a vector. -/
theorem iota_lift (b : Fin 32) (t : Fin 4096) (k : Fin 1024) :
    iotaInDim S32x4096x1024 32 2 (red_dist.lift (ix2 b t) (k.cast rfl)) = BitVec.ofNat 32 k.val :=
  congrArg (iotaInDim S32x4096x1024 32 2) (lift_eq b t k)

/-- THE REFERENCE'S INDEX is that of the nearest row. -/
theorem argmin_apply (b : Fin 32) (t : Fin 4096) : argminV (distV a e) (ix2 b t) = BitVec.ofNat 32 (code a e b t).val := by
  unfold argminV
  exact argReduce_firstMin (c := (2 : Fin S32x4096x1024.rank)) (reducer_argmin_f32_i32 (F := Ideal)) reducer_left reducer_right
    reducer_one (distV a e) (iotaInDim S32x4096x1024 32 2) (constant S_ .f32 0x7F800000#32) (constantI S_ 32 0#32)
    reducesTo_S32x4096x1024_S32x4096_d2 red_dist h_S_ top_apply (fun _ => rfl) (ix2 b t) rfl (dist2 (vecAt a b t) (rowAt e))
    (dist_lift a e b t) (iota_lift b t)

variable (i : IVec S32x4096 32) (b : Fin 32) (t : Fin 4096) (c : Fin 1024)

/-- An index from 0 to 1023 is its own row number. -/
theorem rows_apply (hi : i (ix2 b t) = BitVec.ofNat 32 c.val) : rowsV i (ix3 b t 0) = BitVec.ofNat 32 c.val := by
  unfold rowsV
  refine (broadcastInDim_apply _ _ _ _ (ix2 b t) (by
    intro x
    match x with
    | ⟨0, _⟩ => rfl
    | ⟨1, _⟩ => rfl)).trans ?_
  show Scalar.select (IntOp.cmpi .slt (i (ix2 b t)) 0#32) (IntOp.addi (i (ix2 b t)) 1024#32) (i (ix2 b t)) = _
  rw [hi]
  have hn : ¬ ((BitVec.ofNat 32 c.val).toInt < 0) := by rw [toInt_index]; omega
  simp [IntOp.cmpi, BitVec.slt, hn, Scalar.select]

/-- Such a row number lies in the table. -/
theorem inTable_apply (hi : i (ix2 b t) = BitVec.ofNat 32 c.val) : inTableV (rowsV i) (ix2 b t) = 1#1 := by
  unfold inTableV
  refine (Host.reduce_eq_fold_single IntOp.andi _ (constantI S_ 1 1#1) reducesTo_S32x4096x1_S32x4096_d2 red_one h_S_ (ix2 b t)).trans ?_
  have hl : ∀ k : Fin 1, red_one.lift (ix2 b t) k = ix3 b t 0 := by
    intro k
    funext x; refine Fin.ext ?_
    match x with
    | ⟨0, _⟩ => rfl
    | ⟨1, _⟩ => rfl
    | ⟨2, _⟩ => exact congrArg Fin.val (Subsingleton.elim k 0)
  have hf : ∀ k : Fin 1, (andi (cmpi .sge (rowsV i) (broadcastInDim S32x4096x1 ![] bcast_S_S32x4096x1 (constantI S_ 32 0#32)))
      (cmpi .sle (rowsV i) (broadcastInDim S32x4096x1 ![0, 1, 2] bcast_S1x1x1_S32x4096x1_0_1_2
        (broadcastInDim S1x1x1 ![2] bcast_S1_S1x1x1_2 (constantI S1 32 1023#32))))) (red_one.lift (ix2 b t) k) = 1#1 := by
    intro k
    rw [hl]
    show IntOp.andi (IntOp.cmpi .sge (rowsV i (ix3 b t 0)) 0#32) (IntOp.cmpi .sle (rowsV i (ix3 b t 0)) 1023#32) = _
    rw [rows_apply i b t c hi]
    have h0 : (0#32).toInt ≤ (BitVec.ofNat 32 c.val).toInt := by rw [toInt_index]; exact Int.natCast_nonneg _
    have h1 : (BitVec.ofNat 32 c.val).toInt ≤ (1023#32).toInt := by
      rw [toInt_index]
      have := c.isLt
      show (c.val : Int) ≤ 1023
      omega
    simp only [IntOp.cmpi, BitVec.sle, decide_eq_true h0, decide_eq_true h1]
    rfl
  refine (congrArg (fun g : Fin 1 → BitVec 1 => (Finset.univ : Finset (Fin 1)).fold IntOp.andi 1#1 g) (funext hf)).trans ?_
  decide

/-- The table read at such row numbers: the row of that number. -/
theorem gather_apply (r : IVec S32x4096x1 32) (hr : r (ix3 b t 0) = BitVec.ofNat 32 c.val) (d : Fin 128) :
    Host.gather gather_S1024x128_S32x4096x1_S32x4096x128_2_0_n_n_0_2_1128 e r (ix3 b t d) = rowAt e c d := by
  unfold Host.gather
  refine congrArg e (funext fun x => Fin.ext ?_)
  show gather_S1024x128_S32x4096x1_S32x4096x128_2_0_n_n_0_2_1128.start (ix3 b t d) r x
    + gather_S1024x128_S32x4096x1_S32x4096x128_2_0_n_n_0_2_1128.batchCoord (ix3 b t d) x
    + gather_S1024x128_S32x4096x1_S32x4096x128_2_0_n_n_0_2_1128.offCoord (ix3 b t d) x = _
  have hb : gather_S1024x128_S32x4096x1_S32x4096x128_2_0_n_n_0_2_1128.batchCoord (ix3 b t d) x = 0 :=
    GatherDims.batchCoord_eq_zero _ _ _ List.not_mem_nil
  rw [hb]
  match x with
  | ⟨0, _⟩ =>
    have ho : gather_S1024x128_S32x4096x1_S32x4096x128_2_0_n_n_0_2_1128.offCoord (ix3 b t d) ⟨0, by decide⟩ = 0 :=
      GatherDims.offCoord_eq_zero _ _ _ (fun h => ((GatherDims.mem_sKept _ _).mp h).1 (List.mem_singleton.mpr rfl))
    have hs : gather_S1024x128_S32x4096x1_S32x4096x128_2_0_n_n_0_2_1128.start (ix3 b t d) r ⟨0, by decide⟩ = c.val := by
      unfold GatherDims.start
      refine (dif_pos (List.mem_singleton.mpr rfl)).trans ?_
      have hsi : gather_S1024x128_S32x4096x1_S32x4096x128_2_0_n_n_0_2_1128.siIdx (ix3 b t d)
          ⟨List.idxOf (0 : Fin 2) [0], List.idxOf_lt_length_iff.2 (List.mem_singleton.mpr rfl)⟩ = ix3 b t 0 := by
        funext y; refine Fin.ext ?_
        match y with
        | ⟨0, _⟩ => rfl
        | ⟨1, _⟩ => rfl
        | ⟨2, _⟩ => rfl
      refine (congrArg (fun z => min (r z).toInt.toNat (1024 - 1)) hsi).trans ?_
      show min (r (ix3 b t 0)).toInt.toNat (1024 - 1) = c.val
      rw [hr, toInt_index]
      have := c.isLt
      show min (Int.toNat (c.val : Int)) 1023 = c.val
      rw [Int.toNat_natCast]
      omega
    rw [hs, ho]
    rfl
  | ⟨1, _⟩ =>
    have hs : gather_S1024x128_S32x4096x1_S32x4096x128_2_0_n_n_0_2_1128.start (ix3 b t d) r ⟨1, by decide⟩ = 0 := by
      unfold GatherDims.start
      exact dif_neg (by decide)
    have ho : gather_S1024x128_S32x4096x1_S32x4096x128_2_0_n_n_0_2_1128.offCoord (ix3 b t d) ⟨1, by decide⟩ = d.val := rfl
    rw [hs, ho]
    show 0 + 0 + d.val = d.val
    omega

/-- A choice between two arrays takes the first where the condition is one. -/
theorem select_at {s : Shape} {α : Type} (p : IVec s 1) (x y : s.Idx → α) (j : s.Idx) (h : p j = 1#1) : select p x y j = x j := by
  show Scalar.select (p j) (x j) (y j) = _
  rw [h, select_taken]

/-- Where the index is in the table, the reference takes its row. -/
theorem mask_apply (hi : i (ix2 b t) = BitVec.ofNat 32 c.val) (d : Fin 128) :
    broadcastInDim S32x4096x128 ![0, 1] bcast_S32x4096_S32x4096x128_0_1 (inTableV (rowsV i)) (ix3 b t d) = 1#1 :=
  (broadcastInDim_apply _ _ _ _ (ix2 b t) (by
    intro x
    match x with
    | ⟨0, _⟩ => rfl
    | ⟨1, _⟩ => rfl)).trans (inTable_apply i b t c hi)

/-- The reference's row at such an index. -/
theorem take_apply (hi : i (ix2 b t) = BitVec.ofNat 32 c.val) (d : Fin 128) : takeV e i (ix3 b t d) = rowAt e c d := by
  unfold takeV
  exact (select_at _ _ _ _ (mask_apply i b t c hi d)).trans (gather_apply e b t c (rowsV i) (rows_apply i b t c hi) d)

/-- The reference's indices with an axis of one between their two axes. -/
theorem out_apply : outV i (ix3 b 0 t) = i (ix2 b t) :=
  broadcastInDim_apply _ _ _ _ (ix2 b t) (by
    intro x
    match x with
    | ⟨0, _⟩ => rfl
    | ⟨1, _⟩ => rfl)

/-- THE REFERENCE'S FIRST RESULT: at every vector the nearest row. -/
theorem take_eq : takeV e (argminV (distV a e)) = quantV a e := by
  funext y
  obtain ⟨b, t, d, rfl⟩ : ∃ (b : Fin 32) (t : Fin 4096) (d : Fin 128), y = ix3 b t d := ⟨y 0, y 1, y 2, eq_ix3 y⟩
  exact take_apply e _ b t (code a e b t) (argmin_apply a e b t) d

/-- THE REFERENCE'S SECOND RESULT: at every vector the nearest row's number. -/
theorem out_eq : outV (argminV (distV a e)) = codesV a e := by
  funext y
  obtain ⟨b, t, rfl⟩ : ∃ (b : Fin 32) (t : Fin 4096), y = ix3 b 0 t :=
    ⟨y 0, y 2, (eq_ix3 y).trans (congrArg (fun x : Fin 1 => ix3 (y 0 : Fin 32) x (y 2 : Fin 4096)) (Subsingleton.elim _ _))⟩
  exact (out_apply _ b t).trans (argmin_apply a e b t)

variable (m : (ℓ : Loc nD τ sig) → Buf (Elt Ideal) ℓ) (ρ : Dev nD → PrngReg)

open Idealize.ShloMosaic.TcCoe

/-- THE REFERENCE'S RUN: it ends with the two closed forms at its results and its arguments unchanged. -/
theorem run : θ_run defs (onTc (τ := τ) (main (F := Ideal))) ⟨m, fun _ => 0, ρ⟩ fun r => ∀ c : Dev nD,
      r.2.mem ((c : Thread nD τ).loc main_v15) = quantV (m ((c : Thread nD τ).loc main_arg0)) (m ((c : Thread nD τ).loc main_arg1))
      ∧ r.2.mem ((c : Thread nD τ).loc main_v16) = codesV (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (take_eq _ _), (h c).2.1.trans (out_eq _ _), (h c).2.2⟩) (Run.run m ρ)

end Cert.Proof.RefValue

end
-- ==== Proof.lean ====
/- THE CERTIFICATE: the two printed kernels and the reference run to a quiescent end with their arguments unchanged, and at
   the extended reals the kernel's two results are the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelValue
public import proofs.«01_k».proof.Proof.RefValue

@[expose] public section

noncomputable section

namespace Cert.Proof

open Idealize.ShloMosaic Idealize.SL.Sem

/-- The kernel as compiled, at machine numbers: its generated frame. -/
theorem frame_kernel : Cert.quiescent_Kernel := fun m g _ => Cert.Kernel.Gen.frame (F := Bits) m g

/-- The kernel at the extended reals: its generated frame. -/
theorem frame_ideal : Cert.quiescent_KernelIdeal := fun m g _ => Cert.KernelIdeal.Gen.frame (F := Ideal) m g

/-- The reference at the extended reals: its run read at its arguments; it has no semaphore. -/
theorem frame_reference : Cert.quiescent_ReferenceIdeal := fun m g _ =>
  (θ_run Cert.ReferenceIdeal.defs _ _).mono (fun r h => ⟨fun c => (h c).2.2, sem_eq_zero_of_no_sems (by decide) r.2⟩)
    (RefValue.run m g)

/-- At the extended reals the kernel and the reference end with equal results: at every vector the nearest row of the table
    (`quantV`) and its number (`codesV`). -/
theorem algebraic : Cert.algebraic_KernelIdeal_ReferenceIdeal := by
  intro m g m' g' _ hm
  refine ⟨fun c => quantV (m (c.tc.loc Cert.KernelIdeal.main_arg0)) (m (c.tc.loc Cert.KernelIdeal.main_arg1)),
    fun c => codesV (m (c.tc.loc Cert.KernelIdeal.main_arg0)) (m (c.tc.loc Cert.KernelIdeal.main_arg1)), KernelValue.run m g, ?_⟩
  refine (θ_run Cert.ReferenceIdeal.defs _ _).mono (fun r h c => ?_) (RefValue.run m' g')
  obtain ⟨h1, h2, h3⟩ := h c
  obtain ⟨e0, e1⟩ := hm c
  exact ⟨h1.trans (congrArg₂ quantV e0 e1), h2.trans (congrArg₂ codesV e0 e1), h3⟩

/-- Everything the certificate claims. -/
theorem claim : Cert.Claim :=
  ⟨Cert.Kernel.Gen.facts, Cert.KernelIdeal.Gen.facts, Cert.ReferenceIdeal.Gen.facts, frame_kernel, frame_ideal, frame_reference,
    trivial, algebraic⟩

end Cert.Proof

end
